-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v57)) (v2 : (c : Dev Cert.KernelIdeal.nD) → Buf (Elt Ideal) ((c.tc : Thread Cert.KernelIdeal.nD Cert.KernelIdeal.τ).loc Cert.KernelIdeal.main_v55)) (v3 : (c : Dev Cert.KernelIdeal.nD) → Buf (Elt Ideal) ((c.tc : Thread Cert.KernelIdeal.nD Cert.KernelIdeal.τ).loc Cert.KernelIdeal.main_v25_0)) (v4 : (c : Dev Cert.KernelIdeal.nD) → Buf (Elt Ideal) ((c.tc : Thread Cert.KernelIdeal.nD Cert.KernelIdeal.τ).loc Cert.KernelIdeal.main_v25_1)) (v5 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_v55) = v2 c
          ∧ r.2.mem ((c.tc : Thread Cert.KernelIdeal.nD Cert.KernelIdeal.τ).loc Cert.KernelIdeal.main_v25_0) = v3 c
          ∧ r.2.mem ((c.tc : Thread Cert.KernelIdeal.nD Cert.KernelIdeal.τ).loc Cert.KernelIdeal.main_v25_1) = v4 c
          ∧ r.2.mem ((c.tc : Thread Cert.KernelIdeal.nD Cert.KernelIdeal.τ).loc Cert.KernelIdeal.main_v41) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v7) = v3 c
          ∧ r.2.mem ((c.tc : Thread Cert.ReferenceIdeal.nD Cert.ReferenceIdeal.τ).loc Cert.ReferenceIdeal.main_v14) = v4 c
          ∧ r.2.mem ((c.tc : Thread Cert.ReferenceIdeal.nD Cert.ReferenceIdeal.τ).loc Cert.ReferenceIdeal.main_v19) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S256 : Shape := ⟨1, ![256]⟩
abbrev S256x3 : Shape := ⟨2, ![256, 3]⟩
abbrev S256x2x1 : Shape := ⟨3, ![256, 2, 1]⟩
abbrev S1x256x512x3 : Shape := ⟨4, ![1, 256, 512, 3]⟩
abbrev S256x512x3 : Shape := ⟨3, ![256, 512, 3]⟩
abbrev S_ : Shape := ⟨0, ![]⟩

class Facts : Prop where
  bcast_S_S256 : S_.BroadcastsInDim S256 (![] : Fin 0 → Fin S256.rank)
  reducesTo_S256_S_d0 : S256.ReducesTo [0] S_
  h_S_ : 0 < S_.numel

variable [Facts]

def fn {F : FTy → Type} [FloatOps F] (main_arg0 : IVec S256 32) (main_arg1 : FVec F S256x3 .f32) (main_arg2 : FVec F S256x2x1 .f32) (main_arg3 : FVec F S1x256x512x3 .f32) (main_arg4 : FVec F S256x512x3 .f32) : IVec S_ 1 :=
  let main_c : IVec S_ 32 := constantI S_ 32 0#32
  let main_v0 : IVec S256 32 := broadcastInDim S256 ![] bcast_S_S256 main_c
  let main_v1 : IVec S256 1 := cmpi .sge main_arg0 main_v0
  let main_c_0 : IVec S_ 32 := constantI S_ 32 1#32
  let main_v2 : IVec S256 32 := broadcastInDim S256 ![] bcast_S_S256 main_c_0
  let main_v3 : IVec S256 1 := cmpi .slt main_arg0 main_v2
  let main_v4 : IVec S256 1 := andi main_v1 main_v3
  let main_c_1 : IVec S_ 1 := constantI S_ 1 1#1
  let main_v5 : IVec S_ 1 := (fun x v => Host.reduce IntOp.andi x v reducesTo_S256_S_d0 h_S_) main_v4 main_c_1
  main_v5
-- ==== Kernel.lean ====
abbrev S256 : Shape := ⟨1, ![256]⟩
abbrev S256x3 : Shape := ⟨2, ![256, 3]⟩
abbrev S256x2x1 : Shape := ⟨3, ![256, 2, 1]⟩
abbrev S1x256x512x3 : Shape := ⟨4, ![1, 256, 512, 3]⟩
abbrev S256x512x3 : Shape := ⟨3, ![256, 512, 3]⟩
abbrev S3x3 : Shape := ⟨2, ![3, 3]⟩
abbrev S_ : Shape := ⟨0, ![]⟩
abbrev S3x3x1 : Shape := ⟨3, ![3, 3, 1]⟩
abbrev S1x3x3 : Shape := ⟨3, ![1, 3, 3]⟩
abbrev S3x3x3 : Shape := ⟨3, ![3, 3, 3]⟩
abbrev S3x256 : Shape := ⟨2, ![3, 256]⟩
abbrev S1x3x256 : Shape := ⟨3, ![1, 3, 256]⟩
abbrev S3x3x256 : Shape := ⟨3, ![3, 3, 256]⟩
abbrev S131072x3 : Shape := ⟨2, ![131072, 3]⟩
abbrev S3x131072 : Shape := ⟨2, ![3, 131072]⟩
abbrev S256x2 : Shape := ⟨2, ![256, 2]⟩
abbrev S256x131072 : Shape := ⟨2, ![256, 131072]⟩
abbrev S3x2048 : Shape := ⟨2, ![3, 2048]⟩
abbrev S256x2048 : Shape := ⟨2, ![256, 2048]⟩
abbrev S1x2048 : Shape := ⟨2, ![1, 2048]⟩
abbrev S256x1 : Shape := ⟨2, ![256, 1]⟩
abbrev S1x131072x3 : Shape := ⟨3, ![1, 131072, 3]⟩
abbrev S256x1x3 : Shape := ⟨3, ![256, 1, 3]⟩
abbrev S256x131072x3 : Shape := ⟨3, ![256, 131072, 3]⟩
abbrev S1x256x512 : Shape := ⟨3, ![1, 256, 512]⟩
abbrev S1x131072 : Shape := ⟨2, ![1, 131072]⟩
abbrev S1 : Shape := ⟨1, ![1]⟩
abbrev S1x1 : Shape := ⟨2, ![1, 1]⟩

abbrev nBuf : Space → Nat
  | .hbm => 152
  | .vmem => 19
  | .smem => 0
  | _ => 0

abbrev hbmTy0_0 (i : Nat) : BufTy := match i % 128 with
  | 0 => ⟨S256, .i32⟩
  | 1 => ⟨S256x3, .f32⟩
  | 2 => ⟨S256x2x1, .f32⟩
  | 3 => ⟨S1x256x512x3, .f32⟩
  | 4 => ⟨S256x512x3, .f32⟩
  | 5 => ⟨S3x3, .f32⟩
  | 6 => ⟨S3x3, .i32⟩
  | 7 => ⟨S3x3, .i32⟩
  | 8 => ⟨S_, .i32⟩
  | 9 => ⟨S3x3, .i32⟩
  | 10 => ⟨S3x3, .i32⟩
  | 11 => ⟨S3x3, .i1⟩
  | 12 => ⟨S3x3, .f32⟩
  | 13 => ⟨S3x3x1, .f32⟩
  | 14 => ⟨S1x3x3, .f32⟩
  | 15 => ⟨S3x3x3, .f32⟩
  | 16 => ⟨S3x3x3, .f32⟩
  | 17 => ⟨S3x3x3, .f32⟩
  | 18 => ⟨S_, .f32⟩
  | 19 => ⟨S3x3, .f32⟩
  | 20 => ⟨S3x256, .f32⟩
  | 21 => ⟨S3x3x1, .f32⟩
  | 22 => ⟨S1x3x256, .f32⟩
  | 23 => ⟨S3x3x256, .f32⟩
  | 24 => ⟨S3x3x256, .f32⟩
  | 25 => ⟨S3x3x256, .f32⟩
  | 26 => ⟨S_, .f32⟩
  | 27 => ⟨S3x256, .f32⟩
  | 28 => ⟨S256x3, .f32⟩
  | 29 => ⟨S131072x3, .f32⟩
  | 30 => ⟨S3x131072, .f32⟩
  | 31 => ⟨S131072x3, .f32⟩
  | 32 => ⟨S3x131072, .f32⟩
  | 33 => ⟨S256x2, .f32⟩
  | 34 => ⟨S256x131072, .f32⟩
  | 35 => ⟨S256x131072, .f32⟩
  | 36 => ⟨S131072x3, .f32⟩
  | 37 => ⟨S1x131072x3, .f32⟩
  | 38 => ⟨S256x1x3, .f32⟩
  | 39 => ⟨S256x131072x3, .f32⟩
  | 40 => ⟨S256x131072x3, .f32⟩
  | 41 => ⟨S256x131072x3, .f32⟩
  | 42 => ⟨S_, .f32⟩
  | 43 => ⟨S256x131072, .f32⟩
  | 44 => ⟨S_, .f32⟩
  | 45 => ⟨S_, .f32⟩
  | 46 => ⟨S_, .f32⟩
  | 47 => ⟨S256x131072, .f32⟩
  | 48 => ⟨S256x131072, .f32⟩
  | 49 => ⟨S_, .f32⟩
  | 50 => ⟨S256x131072, .f32⟩
  | 51 => ⟨S256x131072, .f32⟩
  | 52 => ⟨S1x256x512x3, .f32⟩
  | 53 => ⟨S_, .f32⟩
  | 54 => ⟨S1x256x512, .f32⟩
  | 55 => ⟨S1x256x512, .f32⟩
  | 56 => ⟨S1x131072, .f32⟩
  | 57 => ⟨S_, .i32⟩
  | 58 => ⟨S256, .i32⟩
  | 59 => ⟨S256, .i1⟩
  | 60 => ⟨S_, .i32⟩
  | 61 => ⟨S256, .i32⟩
  | 62 => ⟨S256, .i32⟩
  | 63 => ⟨S256, .i32⟩
  | 64 => ⟨S256x1, .i32⟩
  | 65 => ⟨S1, .i32⟩
  | 66 => ⟨S_, .i32⟩
  | 67 => ⟨S256x1, .i32⟩
  | 68 => ⟨S256x1, .i1⟩
  | 69 => ⟨S1x1, .i32⟩
  | 70 => ⟨S256x1, .i32⟩
  | 71 => ⟨S256x1, .i1⟩
  | 72 => ⟨S256x1, .i1⟩
  | 73 => ⟨S_, .i1⟩
  | 74 => ⟨S256, .i1⟩
  | 75 => ⟨S256x131072, .f32⟩
  | 76 => ⟨S256x131072, .i1⟩
  | 77 => ⟨S_, .f32⟩
  | 78 => ⟨S256x131072, .f32⟩
  | 79 => ⟨S256x131072, .f32⟩
  | 80 => ⟨S256x131072, .f32⟩
  | 81 => ⟨S_, .f32⟩
  | 82 => ⟨S256, .f32⟩
  | 83 => ⟨S256x1, .f32⟩
  | 84 => ⟨S256x131072, .f32⟩
  | 85 => ⟨S256x131072, .f32⟩
  | 86 => ⟨S_, .f32⟩
  | 87 => ⟨S_, .f32⟩
  | 88 => ⟨S256x131072, .f32⟩
  | 89 => ⟨S256x2, .i32⟩
  | 90 => ⟨S256x2, .f32⟩
  | 91 => ⟨S256x2, .f32⟩
  | 92 => ⟨S_, .i32⟩
  | 93 => ⟨S256x2, .i32⟩
  | 94 => ⟨S256x2, .i1⟩
  | 95 => ⟨S_, .i32⟩
  | 96 => ⟨S_, .i32⟩
  | 97 => ⟨S256x2, .i32⟩
  | 98 => ⟨S256x2, .i32⟩
  | 99 => ⟨S256x1, .f32⟩
  | 100 => ⟨S256x2, .f32⟩
  | 101 => ⟨S256x2, .f32⟩
  | 102 => ⟨S256x1, .f32⟩
  | 103 => ⟨S256x2, .f32⟩
  | 104 => ⟨S256x2, .f32⟩
  | 105 => ⟨S_, .f32⟩
  | 106 => ⟨S256x2, .f32⟩
  | 107 => ⟨S256x2, .f32⟩
  | 108 => ⟨S_, .f32⟩
  | 109 => ⟨S256x2, .f32⟩
  | 110 => ⟨S256x2, .f32⟩
  | 111 => ⟨S256x2, .f32⟩
  | 112 => ⟨S_, .i32⟩
  | 113 => ⟨S_, .i32⟩
  | 114 => ⟨S256x2, .i32⟩
  | 115 => ⟨S256x2, .i32⟩
  | 116 => ⟨S256x2, .i32⟩
  | 117 => ⟨S_, .i32⟩
  | 118 => ⟨S256x2, .i32⟩
  | 119 => ⟨S256x2, .i1⟩
  | 120 => ⟨S256x2, .i32⟩
  | 121 => ⟨S256x2, .i32⟩
  | 122 => ⟨S_, .i32⟩
  | 123 => ⟨S256x2, .i32⟩
  | 124 => ⟨S256x2, .i1⟩
  | 125 => ⟨S256x2, .i1⟩
  | 126 => ⟨S_, .i32⟩
  | 127 => ⟨S256x2, .i32⟩
  | _ => ⟨S256, .i32⟩

abbrev hbmTy0_1 (i : Nat) : BufTy := match i % 128 with
  | 0 => ⟨S256x2, .i32⟩
  | 1 => ⟨S256x2, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S256x2, .i32⟩
  | 9 => ⟨S256x2, .i32⟩
  | 10 => ⟨S_, .i32⟩
  | 11 => ⟨S256x2, .i32⟩
  | 12 => ⟨S256x2, .i1⟩
  | 13 => ⟨S_, .i32⟩
  | 14 => ⟨S256x2, .i32⟩
  | 15 => ⟨S256x2, .i1⟩
  | 16 => ⟨S_, .i32⟩
  | 17 => ⟨S_, .i1⟩
  | 18 => ⟨S256x2, .i1⟩
  | 19 => ⟨S256x2, .i1⟩
  | 20 => ⟨S256x2, .i1⟩
  | 21 => ⟨S256x2, .i32⟩
  | 22 => ⟨S256x2, .i32⟩
  | 23 => ⟨S256x2, .i32⟩
  | _ => ⟨S256, .i32⟩

abbrev hbmTy (i : Nat) : BufTy := match i / 128 with
  | 0 => hbmTy0_0 i
  | 1 => hbmTy0_1 i
  | _ => ⟨S256, .i32⟩

abbrev bufTy : (tb : Table) → Fin (tcTables nBuf tb) → BufTy
  | .hbm, ⟨i, _⟩ => hbmTy i
  | .local _ .vmem, ⟨0, _⟩ => ⟨S3x2048, .f32⟩
  | .local _ .vmem, ⟨1, _⟩ => ⟨S3x2048, .f32⟩
  | .local _ .vmem, ⟨2, _⟩ => ⟨S3x2048, .f32⟩
  | .local _ .vmem, ⟨3, _⟩ => ⟨S3x2048, .f32⟩
  | .local _ .vmem, ⟨4, _⟩ => ⟨S256x3, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2, .f32⟩
  | .local _ .vmem, ⟨16, _⟩ => ⟨S256x2, .i32⟩
  | .local _ .vmem, ⟨17, _⟩ => ⟨S256x2, .f32⟩
  | .local _ .vmem, ⟨18, _⟩ => ⟨S256x2, .f32⟩
  | _, _ => ⟨S256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_cst_3 : Ref sig .tc := ⟨.hbm, 44, rfl⟩
abbrev main_cst_4 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_v33 : Ref sig .tc := ⟨.hbm, 51, rfl⟩
abbrev main_call1_v0 : Ref sig .tc := ⟨.hbm, 52, rfl⟩
abbrev main_call1_cst : Ref sig .tc := ⟨.hbm, 53, rfl⟩
abbrev main_call1_v1 : Ref sig .tc := ⟨.hbm, 54, rfl⟩
abbrev main_v34 : Ref sig .tc := ⟨.hbm, 55, rfl⟩
abbrev main_v35 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_call2_cst : Ref sig .tc := ⟨.hbm, 77, rfl⟩
abbrev main_call2_v15 : Ref sig .tc := ⟨.hbm, 78, rfl⟩
abbrev main_v36 : Ref sig .tc := ⟨.hbm, 79, rfl⟩
abbrev main_v37 : Ref sig .tc := ⟨.hbm, 80, rfl⟩
abbrev main_cst_5 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_call3_call0_cst : Ref sig .tc := ⟨.hbm, 86, rfl⟩
abbrev main_call3_call0_v0 : Ref sig .tc := ⟨.hbm, 87, rfl⟩
abbrev main_v42 : Ref sig .tc := ⟨.hbm, 88, rfl⟩
abbrev main_v43_0 : Ref sig .tc := ⟨.hbm, 89, rfl⟩
abbrev main_v43_1 : Ref sig .tc := ⟨.hbm, 90, rfl⟩
abbrev main_v43_2 : Ref sig .tc := ⟨.hbm, 91, rfl⟩
abbrev main_c_6 : Ref sig .tc := ⟨.hbm, 92, rfl⟩
abbrev main_v44 : Ref sig .tc := ⟨.hbm, 93, rfl⟩
abbrev main_v45 : Ref sig .tc := ⟨.hbm, 94, rfl⟩
abbrev main_c_7 : Ref sig .tc := ⟨.hbm, 95, rfl⟩
abbrev main_call4_v0 : Ref sig .tc := ⟨.hbm, 96, rfl⟩
abbrev main_call4_v1 : Ref sig .tc := ⟨.hbm, 97, rfl⟩
abbrev main_v46 : Ref sig .tc := ⟨.hbm, 98, rfl⟩
abbrev main_v47 : Ref sig .tc := ⟨.hbm, 99, rfl⟩
abbrev main_call5_v0 : Ref sig .tc := ⟨.hbm, 100, rfl⟩
abbrev main_v48 : Ref sig .tc := ⟨.hbm, 101, rfl⟩
abbrev main_v49 : Ref sig .tc := ⟨.hbm, 102, rfl⟩
abbrev main_call6_v0 : Ref sig .tc := ⟨.hbm, 103, rfl⟩
abbrev main_v50 : Ref sig .tc := ⟨.hbm, 104, rfl⟩
abbrev main_cst_8 : Ref sig .tc := ⟨.hbm, 105, rfl⟩
abbrev main_v51 : Ref sig .tc := ⟨.hbm, 106, rfl⟩
abbrev main_v52 : Ref sig .tc := ⟨.hbm, 107, rfl⟩
abbrev main_cst_9 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_c_10 : Ref sig .tc := ⟨.hbm, 112, rfl⟩
abbrev main_call7_v0 : Ref sig .tc := ⟨.hbm, 113, rfl⟩
abbrev main_call7_v1 : Ref sig .tc := ⟨.hbm, 114, rfl⟩
abbrev main_call7_v2 : Ref sig .tc := ⟨.hbm, 115, rfl⟩
abbrev main_call7_v3 : Ref sig .tc := ⟨.hbm, 116, rfl⟩
abbrev main_call7_v4 : Ref sig .tc := ⟨.hbm, 117, rfl⟩
abbrev main_call7_v5 : Ref sig .tc := ⟨.hbm, 118, rfl⟩
abbrev main_call7_v6 : Ref sig .tc := ⟨.hbm, 119, rfl⟩
abbrev main_call7_v7 : Ref sig .tc := ⟨.hbm, 120, rfl⟩
abbrev main_call7_v8 : Ref sig .tc := ⟨.hbm, 121, rfl⟩
abbrev main_call7_c : Ref sig .tc := ⟨.hbm, 122, rfl⟩
abbrev main_call7_v9 : Ref sig .tc := ⟨.hbm, 123, rfl⟩
abbrev main_call7_v10 : Ref sig .tc := ⟨.hbm, 124, rfl⟩
abbrev main_call7_v11 : Ref sig .tc := ⟨.hbm, 125, rfl⟩
abbrev main_call7_c_0 : Ref sig .tc := ⟨.hbm, 126, rfl⟩
abbrev main_call7_v12 : Ref sig .tc := ⟨.hbm, 127, rfl⟩
abbrev main_call7_v13 : Ref sig .tc := ⟨.hbm, 128, rfl⟩
abbrev main_v56 : Ref sig .tc := ⟨.hbm, 129, rfl⟩
abbrev main_c_11 : Ref sig .tc := ⟨.hbm, 130, rfl⟩
abbrev main_call8_v0 : Ref sig .tc := ⟨.hbm, 131, rfl⟩
abbrev main_call8_c : Ref sig .tc := ⟨.hbm, 132, rfl⟩
abbrev main_call8_v1 : Ref sig .tc := ⟨.hbm, 133, rfl⟩
abbrev main_call8_c_0 : Ref sig .tc := ⟨.hbm, 134, rfl⟩
abbrev main_call8_v2 : Ref sig .tc := ⟨.hbm, 135, rfl⟩
abbrev main_call8_v3 : Ref sig .tc := ⟨.hbm, 136, rfl⟩
abbrev main_call8_v4 : Ref sig .tc := ⟨.hbm, 137, rfl⟩
abbrev main_call8_c_1 : Ref sig .tc := ⟨.hbm, 138, rfl⟩
abbrev main_call8_v5 : Ref sig .tc := ⟨.hbm, 139, rfl⟩
abbrev main_call8_v6 : Ref sig .tc := ⟨.hbm, 140, rfl⟩
abbrev main_call8_c_2 : Ref sig .tc := ⟨.hbm, 141, rfl⟩
abbrev main_call8_v7 : Ref sig .tc := ⟨.hbm, 142, rfl⟩
abbrev main_call8_v8 : Ref sig .tc := ⟨.hbm, 143, rfl⟩
abbrev main_call8_c_3 : Ref sig .tc := ⟨.hbm, 144, rfl⟩
abbrev main_call8_v9 : Ref sig .tc := ⟨.hbm, 145, rfl⟩
abbrev main_call8_v10 : Ref sig .tc := ⟨.hbm, 146, rfl⟩
abbrev main_call8_v11 : Ref sig .tc := ⟨.hbm, 147, rfl⟩
abbrev main_call8_v12 : Ref sig .tc := ⟨.hbm, 148, rfl⟩
abbrev main_call8_v13 : Ref sig .tc := ⟨.hbm, 149, rfl⟩
abbrev main_call8_v14 : Ref sig .tc := ⟨.hbm, 150, rfl⟩
abbrev main_v57 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x2 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== ReferenceIdeal.lean ====
abbrev S256 : Shape := ⟨1, ![256]⟩
abbrev S256x3 : Shape := ⟨2, ![256, 3]⟩
abbrev S256x2x1 : Shape := ⟨3, ![256, 2, 1]⟩
abbrev S1x256x512x3 : Shape := ⟨4, ![1, 256, 512, 3]⟩
abbrev S256x512x3 : Shape := ⟨3, ![256, 512, 3]⟩
abbrev S3x3 : Shape := ⟨2, ![3, 3]⟩
abbrev S3x256 : Shape := ⟨2, ![3, 256]⟩
abbrev S256x1x3 : Shape := ⟨3, ![256, 1, 3]⟩
abbrev S_ : Shape := ⟨0, ![]⟩
abbrev S1x256x512 : Shape := ⟨3, ![1, 256, 512]⟩
abbrev S1x131072 : Shape := ⟨2, ![1, 131072]⟩
abbrev S256x1 : Shape := ⟨2, ![256, 1]⟩
abbrev S1 : Shape := ⟨1, ![1]⟩
abbrev S1x1 : Shape := ⟨2, ![1, 1]⟩
abbrev S256x131072 : Shape := ⟨2, ![256, 131072]⟩
abbrev S131072x3 : Shape := ⟨2, ![131072, 3]⟩
abbrev S1x131072x3 : Shape := ⟨3, ![1, 131072, 3]⟩
abbrev S256x131072x3 : Shape := ⟨3, ![256, 131072, 3]⟩
abbrev S256x1x131072 : Shape := ⟨3, ![256, 1, 131072]⟩
abbrev S256x2x131072 : Shape := ⟨3, ![256, 2, 131072]⟩
abbrev S256x2 : Shape := ⟨2, ![256, 2]⟩
abbrev S1x1x1 : Shape := ⟨3, ![1, 1, 1]⟩

abbrev nBuf : Space → Nat
  | .hbm => 165
  | .vmem => 0
  | .smem => 0
  | _ => 0

abbrev hbmTy0_0 (i : Nat) : BufTy := match i % 128 with
  | 0 => ⟨S256, .i32⟩
  | 1 => ⟨S256x3, .f32⟩
  | 2 => ⟨S256x2x1, .f32⟩
  | 3 => ⟨S1x256x512x3, .f32⟩
  | 4 => ⟨S256x512x3, .f32⟩
  | 5 => ⟨S3x3, .f32⟩
  | 6 => ⟨S3x3, .f32⟩
  | 7 => ⟨S3x3, .f32⟩
  | 8 => ⟨S3x256, .f32⟩
  | 9 => ⟨S3x256, .f32⟩
  | 10 => ⟨S256x3, .f32⟩
  | 11 => ⟨S256x1x3, .f32⟩
  | 12 => ⟨S1x256x512x3, .f32⟩
  | 13 => ⟨S_, .f32⟩
  | 14 => ⟨S1x256x512, .f32⟩
  | 15 => ⟨S1x256x512, .f32⟩
  | 16 => ⟨S1x131072, .f32⟩
  | 17 => ⟨S_, .i32⟩
  | 18 => ⟨S256, .i32⟩
  | 19 => ⟨S256, .i1⟩
  | 20 => ⟨S_, .i32⟩
  | 21 => ⟨S256, .i32⟩
  | 22 => ⟨S256, .i32⟩
  | 23 => ⟨S256, .i32⟩
  | 24 => ⟨S256x1, .i32⟩
  | 25 => ⟨S1, .i32⟩
  | 26 => ⟨S_, .i32⟩
  | 27 => ⟨S256x1, .i32⟩
  | 28 => ⟨S256x1, .i1⟩
  | 29 => ⟨S1x1, .i32⟩
  | 30 => ⟨S256x1, .i32⟩
  | 31 => ⟨S256x1, .i1⟩
  | 32 => ⟨S256x1, .i1⟩
  | 33 => ⟨S_, .i1⟩
  | 34 => ⟨S256, .i1⟩
  | 35 => ⟨S256x131072, .f32⟩
  | 36 => ⟨S256x131072, .i1⟩
  | 37 => ⟨S_, .f32⟩
  | 38 => ⟨S256x131072, .f32⟩
  | 39 => ⟨S256x131072, .f32⟩
  | 40 => ⟨S131072x3, .f32⟩
  | 41 => ⟨S1x131072x3, .f32⟩
  | 42 => ⟨S256x131072x3, .f32⟩
  | 43 => ⟨S256x131072x3, .f32⟩
  | 44 => ⟨S256x131072x3, .f32⟩
  | 45 => ⟨S_, .f32⟩
  | 46 => ⟨S256x131072, .f32⟩
  | 47 => ⟨S_, .f32⟩
  | 48 => ⟨S_, .f32⟩
  | 49 => ⟨S_, .f32⟩
  | 50 => ⟨S256x131072, .f32⟩
  | 51 => ⟨S256x131072, .f32⟩
  | 52 => ⟨S_, .f32⟩
  | 53 => ⟨S256x131072, .f32⟩
  | 54 => ⟨S256x131072, .f32⟩
  | 55 => ⟨S256x131072, .f32⟩
  | 56 => ⟨S_, .f32⟩
  | 57 => ⟨S256, .f32⟩
  | 58 => ⟨S256x1, .f32⟩
  | 59 => ⟨S256x131072, .f32⟩
  | 60 => ⟨S256x131072, .f32⟩
  | 61 => ⟨S_, .f32⟩
  | 62 => ⟨S_, .f32⟩
  | 63 => ⟨S256x131072, .f32⟩
  | 64 => ⟨S256x1x131072, .f32⟩
  | 65 => ⟨S256x2x131072, .f32⟩
  | 66 => ⟨S256x2x131072, .f32⟩
  | 67 => ⟨S256x2x131072, .i1⟩
  | 68 => ⟨S256x2x131072, .i32⟩
  | 69 => ⟨S256x2x131072, .i32⟩
  | 70 => ⟨S_, .i32⟩
  | 71 => ⟨S_, .i32⟩
  | 72 => ⟨S256x2, .i32⟩
  | 73 => ⟨S256x2, .i32⟩
  | 74 => ⟨S_, .i32⟩
  | 75 => ⟨S_, .i32⟩
  | 76 => ⟨S256x2, .i32⟩
  | 77 => ⟨S256x2, .i32⟩
  | 78 => ⟨S256x2, .i32⟩
  | 79 => ⟨S_, .i32⟩
  | 80 => ⟨S256x2, .i32⟩
  | 81 => ⟨S256x2, .i1⟩
  | 82 => ⟨S256x2, .i32⟩
  | 83 => ⟨S256x2, .i32⟩
  | 84 => ⟨S_, .i32⟩
  | 85 => ⟨S256x2, .i32⟩
  | 86 => ⟨S256x2, .i1⟩
  | 87 => ⟨S256x2, .i1⟩
  | 88 => ⟨S_, .i32⟩
  | 89 => ⟨S256x2, .i32⟩
  | 90 => ⟨S256x2, .i32⟩
  | 91 => ⟨S256x2, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S256x2, .i32⟩
  | 99 => ⟨S256x2, .i32⟩
  | 100 => ⟨S_, .i32⟩
  | 101 => ⟨S256x2, .i32⟩
  | 102 => ⟨S256x2, .i1⟩
  | 103 => ⟨S_, .i32⟩
  | 104 => ⟨S256x2, .i32⟩
  | 105 => ⟨S256x2, .i1⟩
  | 106 => ⟨S_, .i32⟩
  | 107 => ⟨S_, .i1⟩
  | 108 => ⟨S256x2, .i1⟩
  | 109 => ⟨S256x2, .i1⟩
  | 110 => ⟨S256x2, .i1⟩
  | 111 => ⟨S256x2, .i32⟩
  | 112 => ⟨S256x2, .i32⟩
  | 113 => ⟨S256x2, .i32⟩
  | 114 => ⟨S_, .i32⟩
  | 115 => ⟨S256x2, .i32⟩
  | 116 => ⟨S256x2, .i1⟩
  | 117 => ⟨S_, .i32⟩
  | 118 => ⟨S256x2, .i32⟩
  | 119 => ⟨S256x2, .i32⟩
  | 120 => ⟨S256x2, .i32⟩
  | 121 => ⟨S256x2x1, .i32⟩
  | 122 => ⟨S1, .i32⟩
  | 123 => ⟨S_, .i32⟩
  | 124 => ⟨S256x2x1, .i32⟩
  | 125 => ⟨S256x2x1, .i1⟩
  | 126 => ⟨S1x1x1, .i32⟩
  | 127 => ⟨S256x2x1, .i32⟩
  | _ => ⟨S256, .i32⟩

abbrev hbmTy0_1 (i : Nat) : BufTy := match i % 128 with
  | 0 => ⟨S256x2x1, .i1⟩
  | 1 => ⟨S256x2x1, .i1⟩
  | 2 => ⟨S_, .i1⟩
  | 3 => ⟨S256x2, .i1⟩
  | 4 => ⟨S256x2, .f32⟩
  | 5 => ⟨S_, .f32⟩
  | 6 => ⟨S256x2, .f32⟩
  | 7 => ⟨S256x2, .f32⟩
  | 8 => ⟨S_, .f32⟩
  | 9 => ⟨S256x2, .f32⟩
  | 10 => ⟨S256x2, .f32⟩
  | 11 => ⟨S_, .i32⟩
  | 12 => ⟨S256x2, .i32⟩
  | 13 => ⟨S256x2, .i1⟩
  | 14 => ⟨S_, .i32⟩
  | 15 => ⟨S256x2, .i32⟩
  | 16 => ⟨S256x2, .i32⟩
  | 17 => ⟨S256x2, .i32⟩
  | 18 => ⟨S256x2x1, .i32⟩
  | 19 => ⟨S1, .i32⟩
  | 20 => ⟨S_, .i32⟩
  | 21 => ⟨S256x2x1, .i32⟩
  | 22 => ⟨S256x2x1, .i1⟩
  | 23 => ⟨S1x1x1, .i32⟩
  | 24 => ⟨S256x2x1, .i32⟩
  | 25 => ⟨S256x2x1, .i1⟩
  | 26 => ⟨S256x2x1, .i1⟩
  | 27 => ⟨S_, .i1⟩
  | 28 => ⟨S256x2, .i1⟩
  | 29 => ⟨S256x2, .f32⟩
  | 30 => ⟨S_, .f32⟩
  | 31 => ⟨S256x2, .f32⟩
  | 32 => ⟨S256x2, .f32⟩
  | 33 => ⟨S_, .f32⟩
  | 34 => ⟨S256x2, .f32⟩
  | 35 => ⟨S256x2, .f32⟩
  | 36 => ⟨S256x2, .f32⟩
  | _ => ⟨S256, .i32⟩

abbrev hbmTy (i : Nat) : BufTy := match i / 128 with
  | 0 => hbmTy0_0 i
  | 1 => hbmTy0_1 i
  | _ => ⟨S256, .i32⟩

abbrev bufTy : (tb : Table) → Fin (tcTables nBuf tb) → BufTy
  | .hbm, ⟨i, _⟩ => hbmTy i
  | _, _ => ⟨S256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_v5 : Ref sig .tc := ⟨.hbm, 15, rfl⟩
abbrev main_v6 : Ref sig .tc := ⟨.hbm, 16, rfl⟩
abbrev main_call1_c : Ref sig .tc := ⟨.hbm, 17, rfl⟩
abbrev main_call1_v0 : Ref sig .tc := ⟨.hbm, 18, rfl⟩
abbrev main_call1_v1 : Ref sig .tc := ⟨.hbm, 19, rfl⟩
abbrev main_call1_c_0 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_c_1 : Ref sig .tc := ⟨.hbm, 25, rfl⟩
abbrev main_call1_c_2 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_3 : Ref sig .tc := ⟨.hbm, 33, rfl⟩
abbrev main_call1_v12 : Ref sig .tc := ⟨.hbm, 34, rfl⟩
abbrev main_call1_v13 : Ref sig .tc := ⟨.hbm, 35, rfl⟩
abbrev main_call1_v14 : Ref sig .tc := ⟨.hbm, 36, rfl⟩
abbrev main_call1_cst : Ref sig .tc := ⟨.hbm, 37, rfl⟩
abbrev main_call1_v15 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_cst_1 : Ref sig .tc := ⟨.hbm, 45, rfl⟩
abbrev main_v13 : Ref sig .tc := ⟨.hbm, 46, rfl⟩
abbrev main_cst_2 : Ref sig .tc := ⟨.hbm, 47, rfl⟩
abbrev main_cst_3 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v14 : Ref sig .tc := ⟨.hbm, 54, rfl⟩
abbrev main_v15 : Ref sig .tc := ⟨.hbm, 55, rfl⟩
abbrev main_cst_4 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_call3_call0_cst : Ref sig .tc := ⟨.hbm, 61, rfl⟩
abbrev main_call3_call0_v0 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_call4_v0 : Ref sig .tc := ⟨.hbm, 69, rfl⟩
abbrev main_call4_c : Ref sig .tc := ⟨.hbm, 70, rfl⟩
abbrev main_call4_c_0 : Ref sig .tc := ⟨.hbm, 71, rfl⟩
abbrev main_call4_v1_0 : Ref sig .tc := ⟨.hbm, 72, rfl⟩
abbrev main_v26 : Ref sig .tc := ⟨.hbm, 73, rfl⟩
abbrev main_c : Ref sig .tc := ⟨.hbm, 74, rfl⟩
abbrev main_call5_v0 : Ref sig .tc := ⟨.hbm, 75, rfl⟩
abbrev main_call5_v1 : Ref sig .tc := ⟨.hbm, 76, rfl⟩
abbrev main_call5_v2 : Ref sig .tc := ⟨.hbm, 77, rfl⟩
abbrev main_call5_v3 : Ref sig .tc := ⟨.hbm, 78, rfl⟩
abbrev main_call5_v4 : Ref sig .tc := ⟨.hbm, 79, rfl⟩
abbrev main_call5_v5 : Ref sig .tc := ⟨.hbm, 80, rfl⟩
abbrev main_call5_v6 : Ref sig .tc := ⟨.hbm, 81, rfl⟩
abbrev main_call5_v7 : Ref sig .tc := ⟨.hbm, 82, rfl⟩
abbrev main_call5_v8 : Ref sig .tc := ⟨.hbm, 83, rfl⟩
abbrev main_call5_c : Ref sig .tc := ⟨.hbm, 84, rfl⟩
abbrev main_call5_v9 : Ref sig .tc := ⟨.hbm, 85, rfl⟩
abbrev main_call5_v10 : Ref sig .tc := ⟨.hbm, 86, rfl⟩
abbrev main_call5_v11 : Ref sig .tc := ⟨.hbm, 87, rfl⟩
abbrev main_call5_c_0 : Ref sig .tc := ⟨.hbm, 88, rfl⟩
abbrev main_call5_v12 : Ref sig .tc := ⟨.hbm, 89, rfl⟩
abbrev main_call5_v13 : Ref sig .tc := ⟨.hbm, 90, rfl⟩
abbrev main_v27 : Ref sig .tc := ⟨.hbm, 91, rfl⟩
abbrev main_c_5 : Ref sig .tc := ⟨.hbm, 92, rfl⟩
abbrev main_call6_v0 : Ref sig .tc := ⟨.hbm, 93, rfl⟩
abbrev main_call6_c : Ref sig .tc := ⟨.hbm, 94, rfl⟩
abbrev main_call6_v1 : Ref sig .tc := ⟨.hbm, 95, rfl⟩
abbrev main_call6_c_0 : Ref sig .tc := ⟨.hbm, 96, rfl⟩
abbrev main_call6_v2 : Ref sig .tc := ⟨.hbm, 97, rfl⟩
abbrev main_call6_v3 : Ref sig .tc := ⟨.hbm, 98, rfl⟩
abbrev main_call6_v4 : Ref sig .tc := ⟨.hbm, 99, rfl⟩
abbrev main_call6_c_1 : Ref sig .tc := ⟨.hbm, 100, rfl⟩
abbrev main_call6_v5 : Ref sig .tc := ⟨.hbm, 101, rfl⟩
abbrev main_call6_v6 : Ref sig .tc := ⟨.hbm, 102, rfl⟩
abbrev main_call6_c_2 : Ref sig .tc := ⟨.hbm, 103, rfl⟩
abbrev main_call6_v7 : Ref sig .tc := ⟨.hbm, 104, rfl⟩
abbrev main_call6_v8 : Ref sig .tc := ⟨.hbm, 105, rfl⟩
abbrev main_call6_c_3 : Ref sig .tc := ⟨.hbm, 106, rfl⟩
abbrev main_call6_v9 : Ref sig .tc := ⟨.hbm, 107, rfl⟩
abbrev main_call6_v10 : Ref sig .tc := ⟨.hbm, 108, rfl⟩
abbrev main_call6_v11 : Ref sig .tc := ⟨.hbm, 109, rfl⟩
abbrev main_call6_v12 : Ref sig .tc := ⟨.hbm, 110, rfl⟩
abbrev main_call6_v13 : Ref sig .tc := ⟨.hbm, 111, rfl⟩
abbrev main_call6_v14 : Ref sig .tc := ⟨.hbm, 112, rfl⟩
abbrev main_v28 : Ref sig .tc := ⟨.hbm, 113, rfl⟩
abbrev main_call7_c : Ref sig .tc := ⟨.hbm, 114, rfl⟩
abbrev main_call7_v0 : Ref sig .tc := ⟨.hbm, 115, rfl⟩
abbrev main_call7_v1 : Ref sig .tc := ⟨.hbm, 116, rfl⟩
abbrev main_call7_c_0 : Ref sig .tc := ⟨.hbm, 117, rfl⟩
abbrev main_call7_v2 : Ref sig .tc := ⟨.hbm, 118, rfl⟩
abbrev main_call7_v3 : Ref sig .tc := ⟨.hbm, 119, rfl⟩
abbrev main_call7_v4 : Ref sig .tc := ⟨.hbm, 120, rfl⟩
abbrev main_call7_v5 : Ref sig .tc := ⟨.hbm, 121, rfl⟩
abbrev main_call7_c_1 : Ref sig .tc := ⟨.hbm, 122, rfl⟩
abbrev main_call7_c_2 : Ref sig .tc := ⟨.hbm, 123, rfl⟩
abbrev main_call7_v6 : Ref sig .tc := ⟨.hbm, 124, rfl⟩
abbrev main_call7_v7 : Ref sig .tc := ⟨.hbm, 125, rfl⟩
abbrev main_call7_v8 : Ref sig .tc := ⟨.hbm, 126, rfl⟩
abbrev main_call7_v9 : Ref sig .tc := ⟨.hbm, 127, rfl⟩
abbrev main_call7_v10 : Ref sig .tc := ⟨.hbm, 128, rfl⟩
abbrev main_call7_v11 : Ref sig .tc := ⟨.hbm, 129, rfl⟩
abbrev main_call7_c_3 : Ref sig .tc := ⟨.hbm, 130, rfl⟩
abbrev main_call7_v12 : Ref sig .tc := ⟨.hbm, 131, rfl⟩
abbrev main_call7_v13 : Ref sig .tc := ⟨.hbm, 132, rfl⟩
abbrev main_call7_cst : Ref sig .tc := ⟨.hbm, 133, rfl⟩
abbrev main_call7_v14 : Ref sig .tc := ⟨.hbm, 134, rfl⟩
abbrev main_v29 : Ref sig .tc := ⟨.hbm, 135, rfl⟩
abbrev main_cst_6 : Ref sig .tc := ⟨.hbm, 136, rfl⟩
abbrev main_v30 : Ref sig .tc := ⟨.hbm, 137, rfl⟩
abbrev main_v31 : Ref sig .tc := ⟨.hbm, 138, rfl⟩
abbrev main_call8_c : Ref sig .tc := ⟨.hbm, 139, rfl⟩
abbrev main_call8_v0 : Ref sig .tc := ⟨.hbm, 140, rfl⟩
abbrev main_call8_v1 : Ref sig .tc := ⟨.hbm, 141, rfl⟩
abbrev main_call8_c_0 : Ref sig .tc := ⟨.hbm, 142, rfl⟩
abbrev main_call8_v2 : Ref sig .tc := ⟨.hbm, 143, rfl⟩
abbrev main_call8_v3 : Ref sig .tc := ⟨.hbm, 144, rfl⟩
abbrev main_call8_v4 : Ref sig .tc := ⟨.hbm, 145, rfl⟩
abbrev main_call8_v5 : Ref sig .tc := ⟨.hbm, 146, rfl⟩
abbrev main_call8_c_1 : Ref sig .tc := ⟨.hbm, 147, rfl⟩
abbrev main_call8_c_2 : Ref sig .tc := ⟨.hbm, 148, rfl⟩
abbrev main_call8_v6 : Ref sig .tc := ⟨.hbm, 149, rfl⟩
abbrev main_call8_v7 : Ref sig .tc := ⟨.hbm, 150, rfl⟩
abbrev main_call8_v8 : Ref sig .tc := ⟨.hbm, 151, rfl⟩
abbrev main_call8_v9 : Ref sig .tc := ⟨.hbm, 152, rfl⟩
abbrev main_call8_v10 : Ref sig .tc := ⟨.hbm, 153, rfl⟩
abbrev main_call8_v11 : Ref sig .tc := ⟨.hbm, 154, rfl⟩
abbrev main_call8_c_3 : Ref sig .tc := ⟨.hbm, 155, rfl⟩
abbrev main_call8_v12 : Ref sig .tc := ⟨.hbm, 156, rfl⟩
abbrev main_call8_v13 : Ref sig .tc := ⟨.hbm, 157, rfl⟩
abbrev main_call8_cst : Ref sig .tc := ⟨.hbm, 158, rfl⟩
abbrev main_call8_v14 : Ref sig .tc := ⟨.hbm, 159, rfl⟩
abbrev main_v32 : Ref sig .tc := ⟨.hbm, 160, rfl⟩
abbrev main_cst_7 : Ref sig .tc := ⟨.hbm, 161, rfl⟩
abbrev main_v33 : Ref sig .tc := ⟨.hbm, 162, rfl⟩
abbrev main_v34 : Ref sig .tc := ⟨.hbm, 163, rfl⟩
abbrev main_v35 : Ref sig .tc := ⟨.hbm, 164, rfl⟩

abbrev nD : Nat := 1
abbrev τ : Topo := Topo.v7x

variable {F : FTy → Type} [FloatOps F]
-- ==== Proof.KernelRun.lean ====
module

public import proofs.«01_k».proof.Proof.Gen.KernelIdeal.Frame

/-!
# The kernel's run, read at every buffer

The launch that proves the kernel's frame claim, kept with all that it shows of the final memory: every unscoped buffer
holds what the fold through `@main` says.
-/

@[expose] public section

set_option maxRecDepth 16384

noncomputable section

namespace Cert.Sampling

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- From any memory with zero counters, every weakly fair execution of the kernel's `@main` terminates with every
    unscoped buffer at the contents the fold through `@main` ends with. -/
theorem kernel_run : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W20 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h _ c r hr => h c _ (mem_uc r hr))

end Cert.Sampling

end
-- ==== Proof.RefRun.lean ====
module

public import proofs.«01_k».proof.Proof.Gen.ReferenceIdeal
public import Idealize.ShloMosaic.Lib.StableHlo.Run

/-!
# The reference's run, as a list of host operations

The reference's `@main` is a straight line of host operations (a called function's operations stand in its call's
place). It is written here as stretches, one after the other; every execution terminates with each buffer at what the
stretches leave, in order.
-/

@[expose] public section

set_option maxRecDepth 16384

noncomputable section

namespace Cert.RefRun

open Cert.ReferenceIdeal Cert.ReferenceIdeal.Gen Idealize.ShloMosaic Idealize.ShloMosaic.TcCoe Idealize.SL.Sem
open Idealize.ShloMosaic.StableHlo

variable {F : FTy → Type} [FloatOps F]

/-- The operations of the rotation. -/
abbrev opsRot : List (HloOp τ sig (Elt F)) :=
  [ nullary main_cst (fun i => FloatOps.ofBits .f32 (lit0 (S3x3.rowMajor i))),
    nullary main_cst_0 (fun i => FloatOps.ofBits .f32 (lit1 (S3x3.rowMajor i))),
    binary main_cst_0 main_cst main_v0 ((fun l r => Host.dotGeneral dot_S3x3_S3x3_S3x3_1_0_0_1_n_n none l r) : (⟨S3x3, .f32⟩ : BufTy).Contents (Elt F) → (⟨S3x3, .f32⟩ : BufTy).Contents (Elt F) → (⟨S3x3, .f32⟩ : BufTy).Contents (Elt F)),
    unary main_arg1 main_v1 ((transpose S3x256 [1, 0] · transposes_S256x3_S3x256_1_0) : (⟨S256x3, .f32⟩ : BufTy).Contents (Elt F) → (⟨S3x256, .f32⟩ : BufTy).Contents (Elt F)),
    binary main_v0 main_v1 main_v2 ((fun l r => Host.dotGeneral dot_S3x3_S3x256_S3x256_1_0_0_1_n_n none l r) : (⟨S3x3, .f32⟩ : BufTy).Contents (Elt F) → (⟨S3x256, .f32⟩ : BufTy).Contents (Elt F) → (⟨S3x256, .f32⟩ : BufTy).Contents (Elt F)),
    unary main_v2 main_v3 ((transpose S256x3 [1, 0] · transposes_S3x256_S256x3_1_0) : (⟨S3x256, .f32⟩ : BufTy).Contents (Elt F) → (⟨S256x3, .f32⟩ : BufTy).Contents (Elt F)),
    unary main_v3 main_v4 (broadcastInDim S256x1x3 ![0, 2] bcast_S256x3_S256x1x3_0_2 : (⟨S256x3, .f32⟩ : BufTy).Contents (Elt F) → (⟨S256x1x3, .f32⟩ : BufTy).Contents (Elt F)) ]

/-- The buffers they write. -/
abbrev opsRot_W : List (Ref sig .tc) := [main_cst, main_cst_0, main_v0, main_v1, main_v2, main_v3, main_v4]

/-- They write no other buffer. -/
theorem opsRot_writes : (opsRot : List (HloOp τ sig (Elt F))).Forall fun op => op.writes ⊆ (opsRot_W.map (Proc.devRef (τ := τ) .tc)).toFinset :=
  forall_writes_sub_of_map rfl

/-- They name buffers of the TensorCore only. -/
theorem opsRot_sub : (opsRot : List (HloOp τ sig (Elt F))).Forall fun op => op.bufs ⊆ tcRefs τ sig :=
  ⟨nullary_bufs_sub .., nullary_bufs_sub .., binary_bufs_sub .., unary_bufs_sub .., binary_bufs_sub .., unary_bufs_sub .., unary_bufs_sub ..⟩

/-- The operations of the lengths. -/
abbrev opsLen : List (HloOp τ sig (Elt F)) :=
  [ TRef.binary (TRef.of (T := ⟨S1x256x512x3, .f32⟩) main_arg3) (TRef.of (T := ⟨S1x256x512x3, .f32⟩) main_arg3) (TRef.of (T := ⟨S1x256x512x3, .f32⟩) main_call0_v0) mulf,
    TRef.nullary (TRef.of (T := ⟨S_, .f32⟩) main_call0_cst) (constant S_ .f32 0x00000000#32),
    TRef.binary (TRef.of (T := ⟨S1x256x512x3, .f32⟩) main_call0_v0) (TRef.of (T := ⟨S_, .f32⟩) main_call0_cst) (TRef.of (T := ⟨S1x256x512, .f32⟩) main_call0_v1) (fun x v => Host.reduceAdd x v reducesTo_S1x256x512x3_S1x256x512_d3 h_S_),
    TRef.unary (TRef.of (T := ⟨S1x256x512, .f32⟩) main_call0_v1) (TRef.of (T := ⟨S1x256x512, .f32⟩) main_v5) Host.sqrt,
    reshape main_v5 main_v6 (rfl : (.f32 : EltTy) = .f32) shapeCasts_S1x256x512_S1x131072 ]

/-- The buffers they write. -/
abbrev opsLen_W : List (Ref sig .tc) := [main_call0_v0, main_call0_cst, main_call0_v1, main_v5, main_v6]

/-- They write no other buffer. -/
theorem opsLen_writes : (opsLen : List (HloOp τ sig (Elt F))).Forall fun op => op.writes ⊆ (opsLen_W.map (Proc.devRef (τ := τ) .tc)).toFinset :=
  forall_writes_sub_of_map rfl

/-- They name buffers of the TensorCore only. -/
theorem opsLen_sub : (opsLen : List (HloOp τ sig (Elt F))).Forall fun op => op.bufs ⊆ tcRefs τ sig :=
  ⟨binary_bufs_sub .., nullary_bufs_sub .., binary_bufs_sub .., unary_bufs_sub .., reshape_bufs_sub ..⟩

/-- The operations of the lookup of rows. -/
abbrev opsTake : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S256, .i32⟩) main_call1_v0) (broadcastInDim S256 ![] bcast_S_S256),
    TRef.binary (TRef.of (T := ⟨S256, .i32⟩) main_arg0) (TRef.of (T := ⟨S256, .i32⟩) main_call1_v0) (TRef.of (T := ⟨S256, .i1⟩) main_call1_v1) (cmpi .slt),
    TRef.nullary (TRef.of (T := ⟨S_, .i32⟩) main_call1_c_0) (constantI S_ 32 1#32),
    TRef.unary (TRef.of (T := ⟨S_, .i32⟩) main_call1_c_0) (TRef.of (T := ⟨S256, .i32⟩) main_call1_v2) (broadcastInDim S256 ![] bcast_S_S256),
    TRef.binary (TRef.of (T := ⟨S256, .i32⟩) main_arg0) (TRef.of (T := ⟨S256, .i32⟩) main_call1_v2) (TRef.of (T := ⟨S256, .i32⟩) main_call1_v3) addi,
    TRef.ternary (TRef.of (T := ⟨S256, .i1⟩) main_call1_v1) (TRef.of (T := ⟨S256, .i32⟩) main_call1_v3) (TRef.of (T := ⟨S256, .i32⟩) main_arg0) (TRef.of (T := ⟨S256, .i32⟩) main_call1_v4) select,
    TRef.unary (TRef.of (T := ⟨S256, .i32⟩) main_call1_v4) (TRef.of (T := ⟨S256x1, .i32⟩) main_call1_v5) (broadcastInDim S256x1 ![0] bcast_S256_S256x1_0),
    TRef.nullary (TRef.of (T := ⟨S1, .i32⟩) main_call1_c_1) (constantI S1 32 0#32),
    TRef.nullary (TRef.of (T := ⟨S_, .i32⟩) main_call1_c_2) (constantI S_ 32 0#32),
    TRef.unary (TRef.of (T := ⟨S_, .i32⟩) main_call1_c_2) (TRef.of (T := ⟨S256x1, .i32⟩) main_call1_v6) (broadcastInDim S256x1 ![] bcast_S_S256x1),
    TRef.binary (TRef.of (T := ⟨S256x1, .i32⟩) main_call1_v5) (TRef.of (T := ⟨S256x1, .i32⟩) main_call1_v6) (TRef.of (T := ⟨S256x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S256x1, .i32⟩) main_call1_v9) (broadcastInDim S256x1 ![0, 1] bcast_S1x1_S256x1_0_1),
    TRef.binary (TRef.of (T := ⟨S256x1, .i32⟩) main_call1_v5) (TRef.of (T := ⟨S256x1, .i32⟩) main_call1_v9) (TRef.of (T := ⟨S256x1, .i1⟩) main_call1_v10) (cmpi .sle),
    TRef.binary (TRef.of (T := ⟨S256x1, .i1⟩) main_call1_v7) (TRef.of (T := ⟨S256x1, .i1⟩) main_call1_v10) (TRef.of (T := ⟨S256x1, .i1⟩) main_call1_v11) andi,
    TRef.nullary (TRef.of (T := ⟨S_, .i1⟩) main_call1_c_3) (constantI S_ 1 1#1),
    TRef.binary (TRef.of (T := ⟨S256x1, .i1⟩) main_call1_v11) (TRef.of (T := ⟨S_, .i1⟩) main_call1_c_3) (TRef.of (T := ⟨S256, .i1⟩) main_call1_v12) (fun x v => Host.reduce IntOp.andi x v reducesTo_S256x1_S256_d1 h_S_),
    TRef.binary (TRef.of (T := ⟨S1x131072, .f32⟩) main_v6) (TRef.of (T := ⟨S256x1, .i32⟩) main_call1_v5) (TRef.of (T := ⟨S256x131072, .f32⟩) main_call1_v13) (fun x i => Host.gather gather_S1x131072_S256x1_S256x131072_1_0_n_n_0_1_1131072 x i),
    TRef.unary (TRef.of (T := ⟨S256, .i1⟩) main_call1_v12) (TRef.of (T := ⟨S256x131072, .i1⟩) main_call1_v14) (broadcastInDim S256x131072 ![0] bcast_S256_S256x131072_0),
    TRef.nullary (TRef.of (T := ⟨S_, .f32⟩) main_call1_cst) (constant S_ .f32 0x7FC00000#32),
    TRef.unary (TRef.of (T := ⟨S_, .f32⟩) main_call1_cst) (TRef.of (T := ⟨S256x131072, .f32⟩) main_call1_v15) (broadcastInDim S256x131072 ![] bcast_S_S256x131072),
    TRef.ternary (TRef.of (T := ⟨S256x131072, .i1⟩) main_call1_v14) (TRef.of (T := ⟨S256x131072, .f32⟩) main_call1_v13) (TRef.of (T := ⟨S256x131072, .f32⟩) main_call1_v15) (TRef.of (T := ⟨S256x131072, .f32⟩) main_v7) select ]

/-- The buffers they write. -/
abbrev opsTake_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v7]

/-- They write no other buffer. -/
theorem opsTake_writes : (opsTake : List (HloOp τ sig (Elt F))).Forall fun op => op.writes ⊆ (opsTake_W.map (Proc.devRef (τ := τ) .tc)).toFinset :=
  forall_writes_sub_of_map rfl

/-- They name buffers of the TensorCore only. -/
theorem opsTake_sub : (opsTake : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- The operations of the products. -/
abbrev opsDots : List (HloOp τ sig (Elt F)) :=
  [ reshape main_arg4 main_v8 (rfl : (.f32 : EltTy) = .f32) shapeCasts_S256x512x3_S131072x3,
    unary main_v8 main_v9 (broadcastInDim S1x131072x3 ![1, 2] bcast_S131072x3_S1x131072x3_1_2 : (⟨S131072x3, .f32⟩ : BufTy).Contents (Elt F) → (⟨S1x131072x3, .f32⟩ : BufTy).Contents (Elt F)),
    unary main_v9 main_v10 (broadcastInDim S256x131072x3 ![0, 1, 2] bcast_S1x131072x3_S256x131072x3_0_1_2 : (⟨S1x131072x3, .f32⟩ : BufTy).Contents (Elt F) → (⟨S256x131072x3, .f32⟩ : BufTy).Contents (Elt F)),
    unary main_v4 main_v11 (broadcastInDim S256x131072x3 ![0, 1, 2] bcast_S256x1x3_S256x131072x3_0_1_2 : (⟨S256x1x3, .f32⟩ : BufTy).Contents (Elt F) → (⟨S256x131072x3, .f32⟩ : BufTy).Contents (Elt F)),
    binary main_v10 main_v11 main_v12 (mulf : (⟨S256x131072x3, .f32⟩ : BufTy).Contents (Elt F) → (⟨S256x131072x3, .f32⟩ : BufTy).Contents (Elt F) → (⟨S256x131072x3, .f32⟩ : BufTy).Contents (Elt F)),
    nullary main_cst_1 (constant S_ .f32 0x00000000#32),
    binary main_v12 main_cst_1 main_v13 ((fun x v => Host.reduceAdd x v reducesTo_S256x131072x3_S256x131072_d2 h_S_) : (⟨S256x131072x3, .f32⟩ : BufTy).Contents (Elt F) → (⟨S_, .f32⟩ : BufTy).Contents (Elt F) → (⟨S256x131072, .f32⟩ : BufTy).Contents (Elt F)),
    nullary main_cst_2 (constant S_ .f32 0x00000000#32),
    nullary main_cst_3 (constant S_ .f32 0x3F800000#32) ]

/-- The buffers they write. -/
abbrev opsDots_W : List (Ref sig .tc) := [main_v8, main_v9, main_v10, main_v11, main_v12, main_cst_1, main_v13, main_cst_2, main_cst_3]

/-- They write no other buffer. -/
theorem opsDots_writes : (opsDots : List (HloOp τ sig (Elt F))).Forall fun op => op.writes ⊆ (opsDots_W.map (Proc.devRef (τ := τ) .tc)).toFinset :=
  forall_writes_sub_of_map rfl

/-- They name buffers of the TensorCore only. -/
theorem opsDots_sub : (opsDots : List (HloOp τ sig (Elt F))).Forall fun op => op.bufs ⊆ tcRefs τ sig :=
  ⟨reshape_bufs_sub .., unary_bufs_sub .., unary_bufs_sub .., unary_bufs_sub .., binary_bufs_sub .., nullary_bufs_sub .., binary_bufs_sub .., nullary_bufs_sub .., nullary_bufs_sub ..⟩

/-- The operations of the clipping. -/
abbrev opsClip : List (HloOp τ sig (Elt F)) :=
  [ TRef.unary (TRef.of (T := ⟨S_, .f32⟩) main_cst_2) (TRef.of (T := ⟨S_, .f32⟩) main_call2_v0) id,
    TRef.unary (TRef.of (T := ⟨S_, .f32⟩) main_call2_v0) (TRef.of (T := ⟨S256x131072, .f32⟩) main_call2_v1) (broadcastInDim S256x131072 ![] bcast_S_S256x131072),
    TRef.binary (TRef.of (T := ⟨S256x131072, .f32⟩) main_call2_v1) (TRef.of (T := ⟨S256x131072, .f32⟩) main_v13) (TRef.of (T := ⟨S256x131072, .f32⟩) main_call2_v2) maximumf,
    TRef.unary (TRef.of (T := ⟨S_, .f32⟩) main_cst_3) (TRef.of (T := ⟨S_, .f32⟩) main_call2_v3) id,
    TRef.unary (TRef.of (T := ⟨S_, .f32⟩) main_call2_v3) (TRef.of (T := ⟨S256x131072, .f32⟩) main_call2_v4) (broadcastInDim S256x131072 ![] bcast_S_S256x131072),
    TRef.binary (TRef.of (T := ⟨S256x131072, .f32⟩) main_call2_v4) (TRef.of (T := ⟨S256x131072, .f32⟩) main_call2_v2) (TRef.of (T := ⟨S256x131072, .f32⟩) main_v14) minimumf ]

/-- The buffers they write. -/
abbrev opsClip_W : List (Ref sig .tc) := [main_call2_v0, main_call2_v1, main_call2_v2, main_call2_v3, main_call2_v4, main_v14]

/-- They write no other buffer. -/
theorem opsClip_writes : (opsClip : List (HloOp τ sig (Elt F))).Forall fun op => op.writes ⊆ (opsClip_W.map (Proc.devRef (τ := τ) .tc)).toFinset :=
  forall_writes_sub_of_map rfl

/-- They name buffers of the TensorCore only. -/
theorem opsClip_sub : (opsClip : List (HloOp τ sig (Elt F))).Forall fun op => op.bufs ⊆ tcRefs τ sig :=
  ⟨unary_bufs_sub .., unary_bufs_sub .., binary_bufs_sub .., unary_bufs_sub .., unary_bufs_sub .., binary_bufs_sub ..⟩

/-- The operations of the division by the sums. -/
abbrev opsNorm : List (HloOp τ sig (Elt F)) :=
  [ binary main_v7 main_v14 main_v15 (mulf : (⟨S256x131072, .f32⟩ : BufTy).Contents (Elt F) → (⟨S256x131072, .f32⟩ : BufTy).Contents (Elt F) → (⟨S256x131072, .f32⟩ : BufTy).Contents (Elt F)),
    nullary main_cst_4 (constant S_ .f32 0x00000000#32),
    binary main_v15 main_cst_4 main_v16 ((fun x v => Host.reduceAdd x v reducesTo_S256x131072_S256_d1 h_S_) : (⟨S256x131072, .f32⟩ : BufTy).Contents (Elt F) → (⟨S_, .f32⟩ : BufTy).Contents (Elt F) → (⟨S256, .f32⟩ : BufTy).Contents (Elt F)),
    unary main_v16 main_v17 (broadcastInDim S256x1 ![0] bcast_S256_S256x1_0 : (⟨S256, .f32⟩ : BufTy).Contents (Elt F) → (⟨S256x1, .f32⟩ : BufTy).Contents (Elt F)),
    unary main_v17 main_v18 (broadcastInDim S256x131072 ![0, 1] bcast_S256x1_S256x131072_0_1 : (⟨S256x1, .f32⟩ : BufTy).Contents (Elt F) → (⟨S256x131072, .f32⟩ : BufTy).Contents (Elt F)),
    binary main_v15 main_v18 main_v19 (Host.divf : (⟨S256x131072, .f32⟩ : BufTy).Contents (Elt F) → (⟨S256x131072, .f32⟩ : BufTy).Contents (Elt F) → (⟨S256x131072, .f32⟩ : BufTy).Contents (Elt F)) ]

/-- The buffers they write. -/
abbrev opsNorm_W : List (Ref sig .tc) := [main_v15, main_cst_4, main_v16, main_v17, main_v18, main_v19]

/-- They write no other buffer. -/
theorem opsNorm_writes : (opsNorm : List (HloOp τ sig (Elt F))).Forall fun op => op.writes ⊆ (opsNorm_W.map (Proc.devRef (τ := τ) .tc)).toFinset :=
  forall_writes_sub_of_map rfl

/-- They name buffers of the TensorCore only. -/
theorem opsNorm_sub : (opsNorm : List (HloOp τ sig (Elt F))).Forall fun op => op.bufs ⊆ tcRefs τ sig :=
  ⟨binary_bufs_sub .., nullary_bufs_sub .., binary_bufs_sub .., unary_bufs_sub .., unary_bufs_sub .., binary_bufs_sub ..⟩

/-- The operations of the running sums. -/
abbrev opsSums : List (HloOp τ sig (Elt F)) :=
  [ TRef.nullary (TRef.of (T := ⟨S_, .f32⟩) main_call3_call0_cst) (constant S_ .f32 0x00000000#32),
    TRef.unary (TRef.of (T := ⟨S_, .f32⟩) main_call3_call0_cst) (TRef.of (T := ⟨S_, .f32⟩) main_call3_call0_v0) (broadcastInDim S_ ![] bcast_S_S_),
    TRef.binary (TRef.of (T := ⟨S256x131072, .f32⟩) main_v19) (TRef.of (T := ⟨S_, .f32⟩) main_call3_call0_v0) (TRef.of (T := ⟨S256x131072, .f32⟩) main_v20) (fun x v => Host.reduceWindowAdd ![1, 131072] ![1, 1] ![0, 131071] ![0, 0] x v reduceWindows_S256x131072_S256x131072_w1s1p0_0_w131072s1p131071_0 h_S_) ]

/-- The buffers they write. -/
abbrev opsSums_W : List (Ref sig .tc) := [main_call3_call0_cst, main_call3_call0_v0, main_v20]

/-- They write no other buffer. -/
theorem opsSums_writes : (opsSums : List (HloOp τ sig (Elt F))).Forall fun op => op.writes ⊆ (opsSums_W.map (Proc.devRef (τ := τ) .tc)).toFinset :=
  forall_writes_sub_of_map rfl

/-- They name buffers of the TensorCore only. -/
theorem opsSums_sub : (opsSums : List (HloOp τ sig (Elt F))).Forall fun op => op.bufs ⊆ tcRefs τ sig :=
  ⟨nullary_bufs_sub .., unary_bufs_sub .., binary_bufs_sub ..⟩

/-- The operations of the comparison with the samples. -/
abbrev opsBelow : List (HloOp τ sig (Elt F)) :=
  [ unary main_v20 main_v21 (broadcastInDim S256x1x131072 ![0, 2] bcast_S256x131072_S256x1x131072_0_2 : (⟨S256x131072, .f32⟩ : BufTy).Contents (Elt F) → (⟨S256x1x131072, .f32⟩ : BufTy).Contents (Elt F)),
    unary main_v21 main_v22 (broadcastInDim S256x2x131072 ![0, 1, 2] bcast_S256x1x131072_S256x2x131072_0_1_2 : (⟨S256x1x131072, .f32⟩ : BufTy).Contents (Elt F) → (⟨S256x2x131072, .f32⟩ : BufTy).Contents (Elt F)),
    unary main_arg2 main_v23 (broadcastInDim S256x2x131072 ![0, 1, 2] bcast_S256x2x1_S256x2x131072_0_1_2 : (⟨S256x2x1, .f32⟩ : BufTy).Contents (Elt F) → (⟨S256x2x131072, .f32⟩ : BufTy).Contents (Elt F)),
    binary main_v23 main_v22 main_v24 (cmpf .olt : (⟨S256x2x131072, .f32⟩ : BufTy).Contents (Elt F) → (⟨S256x2x131072, .f32⟩ : BufTy).Contents (Elt F) → (⟨S256x2x131072, .i1⟩ : BufTy).Contents (Elt F)),
    unary main_v24 main_v25 ((extui 32 · natLt_1_32) : (⟨S256x2x131072, .i1⟩ : BufTy).Contents (Elt F) → (⟨S256x2x131072, .i32⟩ : BufTy).Contents (Elt F)) ]

/-- The buffers they write. -/
abbrev opsBelow_W : List (Ref sig .tc) := [main_v21, main_v22, main_v23, main_v24, main_v25]

/-- They write no other buffer. -/
theorem opsBelow_writes : (opsBelow : List (HloOp τ sig (Elt F))).Forall fun op => op.writes ⊆ (opsBelow_W.map (Proc.devRef (τ := τ) .tc)).toFinset :=
  forall_writes_sub_of_map rfl

/-- They name buffers of the TensorCore only. -/
theorem opsBelow_sub : (opsBelow : List (HloOp τ sig (Elt F))).Forall fun op => op.bufs ⊆ tcRefs τ sig :=
  ⟨unary_bufs_sub .., unary_bufs_sub .., unary_bufs_sub .., binary_bufs_sub .., unary_bufs_sub ..⟩

/-- The operations of the first greatest place. -/
abbrev opsArg : List (HloOp τ sig (Elt F)) :=
  [ TRef.nullary (TRef.of (T := ⟨S256x2x131072, .i32⟩) main_call4_v0) (iotaInDim S256x2x131072 32 2),
    TRef.nullary (TRef.of (T := ⟨S_, .i32⟩) main_call4_c) (constantI S_ 32 2147483648#32),
    TRef.nullary (TRef.of (T := ⟨S_, .i32⟩) main_call4_c_0) (constantI S_ 32 0#32),
    TRef.quaternary (TRef.of (T := ⟨S256x2x131072, .i32⟩) main_v25) (TRef.of (T := ⟨S256x2x131072, .i32⟩) main_call4_v0) (TRef.of (T := ⟨S_, .i32⟩) main_call4_c) (TRef.of (T := ⟨S_, .i32⟩) main_call4_c_0) (TRef.of (T := ⟨S256x2, .i32⟩) main_call4_v1_0) (fun x y u v j => (Host.reduce2 reducer_argmax_i32_i32 x y u v reducesTo_S256x2x131072_S256x2_d2 h_S_ j).1),
    TRef.quaternary (TRef.of (T := ⟨S256x2x131072, .i32⟩) main_v25) (TRef.of (T := ⟨S256x2x131072, .i32⟩) main_call4_v0) (TRef.of (T := ⟨S_, .i32⟩) main_call4_c) (TRef.of (T := ⟨S_, .i32⟩) main_call4_c_0) (TRef.of (T := ⟨S256x2, .i32⟩) main_v26) (fun x y u v j => (Host.reduce2 reducer_argmax_i32_i32 x y u v reducesTo_S256x2x131072_S256x2_d2 h_S_ j).2) ]

/-- The buffers they write. -/
abbrev opsArg_W : List (Ref sig .tc) := [main_call4_v0, main_call4_c, main_call4_c_0, main_call4_v1_0, main_v26]

/-- They write no other buffer. -/
theorem opsArg_writes : (opsArg : List (HloOp τ sig (Elt F))).Forall fun op => op.writes ⊆ (opsArg_W.map (Proc.devRef (τ := τ) .tc)).toFinset :=
  forall_writes_sub_of_map rfl

/-- They name buffers of the TensorCore only. -/
theorem opsArg_sub : (opsArg : List (HloOp τ sig (Elt F))).Forall fun op => op.bufs ⊆ tcRefs τ sig :=
  ⟨nullary_bufs_sub .., nullary_bufs_sub .., nullary_bufs_sub .., quaternary_bufs_sub .., quaternary_bufs_sub ..⟩

/-- The operations of the quotient. -/
abbrev opsRow : List (HloOp τ sig (Elt F)) :=
  [ nullary main_c (constantI S_ 32 512#32),
    TRef.unary (TRef.of (T := ⟨S_, .i32⟩) main_c) (TRef.of (T := ⟨S_, .i32⟩) main_call5_v0) id,
    TRef.unary (TRef.of (T := ⟨S_, .i32⟩) main_call5_v0) (TRef.of (T := ⟨S256x2, .i32⟩) main_call5_v1) (broadcastInDim S256x2 ![] bcast_S_S256x2),
    TRef.binary (TRef.of (T := ⟨S256x2, .i32⟩) main_v26) (TRef.of (T := ⟨S256x2, .i32⟩) main_call5_v1) (TRef.of (T := ⟨S256x2, .i32⟩) main_call5_v2) Host.divsi,
    TRef.unary (TRef.of (T := ⟨S256x2, .i32⟩) main_v26) (TRef.of (T := ⟨S256x2, .i32⟩) main_call5_v3) signi,
    TRef.unary (TRef.of (T := ⟨S_, .i32⟩) main_call5_v0) (TRef.of (T := ⟨S_, .i32⟩) main_call5_v4) signi,
    TRef.unary (TRef.of (T := ⟨S_, .i32⟩) main_call5_v4) (TRef.of (T := ⟨S256x2, .i32⟩) main_call5_v5) (broadcastInDim S256x2 ![] bcast_S_S256x2),
    TRef.binary (TRef.of (T := ⟨S256x2, .i32⟩) main_call5_v3) (TRef.of (T := ⟨S256x2, .i32⟩) main_call5_v5) (TRef.of (T := ⟨S256x2, .i1⟩) main_call5_v6) (cmpi .ne),
    TRef.unary (TRef.of (T := ⟨S_, .i32⟩) main_call5_v0) (TRef.of (T := ⟨S256x2, .i32⟩) main_call5_v7) (broadcastInDim S256x2 ![] bcast_S_S256x2),
    TRef.binary (TRef.of (T := ⟨S256x2, .i32⟩) main_v26) (TRef.of (T := ⟨S256x2, .i32⟩) main_call5_v7) (TRef.of (T := ⟨S256x2, .i32⟩) main_call5_v8) Host.remsi,
    TRef.nullary (TRef.of (T := ⟨S_, .i32⟩) main_call5_c) (constantI S_ 32 0#32),
    TRef.unary (TRef.of (T := ⟨S_, .i32⟩) main_call5_c) (TRef.of (T := ⟨S256x2, .i32⟩) main_call5_v9) (broadcastInDim S256x2 ![] bcast_S_S256x2),
    TRef.binary (TRef.of (T := ⟨S256x2, .i32⟩) main_call5_v8) (TRef.of (T := ⟨S256x2, .i32⟩) main_call5_v9) (TRef.of (T := ⟨S256x2, .i1⟩) main_call5_v10) (cmpi .ne),
    TRef.binary (TRef.of (T := ⟨S256x2, .i1⟩) main_call5_v6) (TRef.of (T := ⟨S256x2, .i1⟩) main_call5_v10) (TRef.of (T := ⟨S256x2, .i1⟩) main_call5_v11) andi,
    TRef.nullary (TRef.of (T := ⟨S_, .i32⟩) main_call5_c_0) (constantI S_ 32 1#32),
    TRef.unary (TRef.of (T := ⟨S_, .i32⟩) main_call5_c_0) (TRef.of (T := ⟨S256x2, .i32⟩) main_call5_v12) (broadcastInDim S256x2 ![] bcast_S_S256x2),
    TRef.binary (TRef.of (T := ⟨S256x2, .i32⟩) main_call5_v2) (TRef.of (T := ⟨S256x2, .i32⟩) main_call5_v12) (TRef.of (T := ⟨S256x2, .i32⟩) main_call5_v13) subi,
    TRef.ternary (TRef.of (T := ⟨S256x2, .i1⟩) main_call5_v11) (TRef.of (T := ⟨S256x2, .i32⟩) main_call5_v13) (TRef.of (T := ⟨S256x2, .i32⟩) main_call5_v2) (TRef.of (T := ⟨S256x2, .i32⟩) main_v27) select ]

/-- The buffers they write. -/
abbrev opsRow_W : List (Ref sig .tc) := [main_c, main_call5_v0, main_call5_v1, main_call5_v2, main_call5_v3, main_call5_v4, main_call5_v5, main_call5_v6, main_call5_v7, main_call5_v8, main_call5_c, main_call5_v9, main_call5_v10, main_call5_v11, main_call5_c_0, main_call5_v12, main_call5_v13, main_v27]

/-- They write no other buffer. -/
theorem opsRow_writes : (opsRow : List (HloOp τ sig (Elt F))).Forall fun op => op.writes ⊆ (opsRow_W.map (Proc.devRef (τ := τ) .tc)).toFinset :=
  forall_writes_sub_of_map rfl

/-- They name buffers of the TensorCore only. -/
theorem opsRow_sub : (opsRow : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

/-- The operations of the remainder. -/
abbrev opsCol : List (HloOp τ sig (Elt F)) :=
  [ nullary main_c_5 (constantI S_ 32 512#32),
    TRef.unary (TRef.of (T := ⟨S_, .i32⟩) main_c_5) (TRef.of (T := ⟨S_, .i32⟩) main_call6_v0) id,
    TRef.nullary (TRef.of (T := ⟨S_, .i32⟩) main_call6_c) (constantI S_ 32 0#32),
    TRef.binary (TRef.of (T := ⟨S_, .i32⟩) main_call6_v0) (TRef.of (T := ⟨S_, .i32⟩) main_call6_c) (TRef.of (T := ⟨S_, .i1⟩) main_call6_v1) (cmpi .eq),
    TRef.nullary (TRef.of (T := ⟨S_, .i32⟩) main_call6_c_0) (constantI S_ 32 1#32),
    TRef.ternary (TRef.of (T := ⟨S_, .i1⟩) main_call6_v1) (TRef.of (T := ⟨S_, .i32⟩) main_call6_c_0) (TRef.of (T := ⟨S_, .i32⟩) main_call6_v0) (TRef.of (T := ⟨S_, .i32⟩) main_call6_v2) select,
    TRef.unary (TRef.of (T := ⟨S_, .i32⟩) main_call6_v2) (TRef.of (T := ⟨S256x2, .i32⟩) main_call6_v3) (broadcastInDim S256x2 ![] bcast_S_S256x2),
    TRef.binary (TRef.of (T := ⟨S256x2, .i32⟩) main_v26) (TRef.of (T := ⟨S256x2, .i32⟩) main_call6_v3) (TRef.of (T := ⟨S256x2, .i32⟩) main_call6_v4) Host.remsi,
    TRef.nullary (TRef.of (T := ⟨S_, .i32⟩) main_call6_c_1) (constantI S_ 32 0#32),
    TRef.unary (TRef.of (T := ⟨S_, .i32⟩) main_call6_c_1) (TRef.of (T := ⟨S256x2, .i32⟩) main_call6_v5) (broadcastInDim S256x2 ![] bcast_S_S256x2),
    TRef.binary (TRef.of (T := ⟨S256x2, .i32⟩) main_call6_v4) (TRef.of (T := ⟨S256x2, .i32⟩) main_call6_v5) (TRef.of (T := ⟨S256x2, .i1⟩) main_call6_v6) (cmpi .ne),
    TRef.nullary (TRef.of (T := ⟨S_, .i32⟩) main_call6_c_2) (constantI S_ 32 0#32),
    TRef.unary (TRef.of (T := ⟨S_, .i32⟩) main_call6_c_2) (TRef.of (T := ⟨S256x2, .i32⟩) main_call6_v7) (broadcastInDim S256x2 ![] bcast_S_S256x2),
    TRef.binary (TRef.of (T := ⟨S256x2, .i32⟩) main_call6_v4) (TRef.of (T := ⟨S256x2, .i32⟩) main_call6_v7) (TRef.of (T := ⟨S256x2, .i1⟩) main_call6_v8) (cmpi .slt),
    TRef.nullary (TRef.of (T := ⟨S_, .i32⟩) main_call6_c_3) (constantI S_ 32 0#32),
    TRef.binary (TRef.of (T := ⟨S_, .i32⟩) main_call6_v2) (TRef.of (T := ⟨S_, .i32⟩) main_call6_c_3) (TRef.of (T := ⟨S_, .i1⟩) main_call6_v9) (cmpi .slt),
    TRef.unary (TRef.of (T := ⟨S_, .i1⟩) main_call6_v9) (TRef.of (T := ⟨S256x2, .i1⟩) main_call6_v10) (broadcastInDim S256x2 ![] bcast_S_S256x2),
    TRef.binary (TRef.of (T := ⟨S256x2, .i1⟩) main_call6_v8) (TRef.of (T := ⟨S256x2, .i1⟩) main_call6_v10) (TRef.of (T := ⟨S256x2, .i1⟩) main_call6_v11) (cmpi .ne),
    TRef.binary (TRef.of (T := ⟨S256x2, .i1⟩) main_call6_v11) (TRef.of (T := ⟨S256x2, .i1⟩) main_call6_v6) (TRef.of (T := ⟨S256x2, .i1⟩) main_call6_v12) andi,
    TRef.unary (TRef.of (T := ⟨S_, .i32⟩) main_call6_v2) (TRef.of (T := ⟨S256x2, .i32⟩) main_call6_v13) (broadcastInDim S256x2 ![] bcast_S_S256x2),
    TRef.binary (TRef.of (T := ⟨S256x2, .i32⟩) main_call6_v4) (TRef.of (T := ⟨S256x2, .i32⟩) main_call6_v13) (TRef.of (T := ⟨S256x2, .i32⟩) main_call6_v14) addi,
    TRef.ternary (TRef.of (T := ⟨S256x2, .i1⟩) main_call6_v12) (TRef.of (T := ⟨S256x2, .i32⟩) main_call6_v14) (TRef.of (T := ⟨S256x2, .i32⟩) main_call6_v4) (TRef.of (T := ⟨S256x2, .i32⟩) main_v28) select ]

/-- The buffers they write. -/
abbrev opsCol_W : List (Ref sig .tc) := [main_c_5, main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v28]

/-- They write no other buffer. -/
theorem opsCol_writes : (opsCol : List (HloOp τ sig (Elt F))).Forall fun op => op.writes ⊆ (opsCol_W.map (Proc.devRef (τ := τ) .tc)).toFinset :=
  forall_writes_sub_of_map rfl

/-- They name buffers of the TensorCore only. -/
theorem opsCol_sub : (opsCol : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

/-- The operations of the weight at the place. -/
abbrev opsGetW : List (HloOp τ sig (Elt F)) :=
  [ TRef.nullary (TRef.of (T := ⟨S_, .i32⟩) main_call7_c) (constantI S_ 32 0#32),
    TRef.unary (TRef.of (T := ⟨S_, .i32⟩) main_call7_c) (TRef.of (T := ⟨S256x2, .i32⟩) main_call7_v0) (broadcastInDim S256x2 ![] bcast_S_S256x2),
    TRef.binary (TRef.of (T := ⟨S256x2, .i32⟩) main_v26) (TRef.of (T := ⟨S256x2, .i32⟩) main_call7_v0) (TRef.of (T := ⟨S256x2, .i1⟩) main_call7_v1) (cmpi .slt),
    TRef.nullary (TRef.of (T := ⟨S_, .i32⟩) main_call7_c_0) (constantI S_ 32 131072#32),
    TRef.unary (TRef.of (T := ⟨S_, .i32⟩) main_call7_c_0) (TRef.of (T := ⟨S256x2, .i32⟩) main_call7_v2) (broadcastInDim S256x2 ![] bcast_S_S256x2),
    TRef.binary (TRef.of (T := ⟨S256x2, .i32⟩) main_v26) (TRef.of (T := ⟨S256x2, .i32⟩) main_call7_v2) (TRef.of (T := ⟨S256x2, .i32⟩) main_call7_v3) addi,
    TRef.ternary (TRef.of (T := ⟨S256x2, .i1⟩) main_call7_v1) (TRef.of (T := ⟨S256x2, .i32⟩) main_call7_v3) (TRef.of (T := ⟨S256x2, .i32⟩) main_v26) (TRef.of (T := ⟨S256x2, .i32⟩) main_call7_v4) select,
    TRef.reshape (TRef.of (T := ⟨S256x2, .i32⟩) main_call7_v4) (TRef.of (T := ⟨S256x2x1, .i32⟩) main_call7_v5) (rfl : (.i32 : EltTy) = .i32) shapeCasts_S256x2_S256x2x1,
    TRef.nullary (TRef.of (T := ⟨S1, .i32⟩) main_call7_c_1) (constantI S1 32 131071#32),
    TRef.nullary (TRef.of (T := ⟨S_, .i32⟩) main_call7_c_2) (constantI S_ 32 0#32),
    TRef.unary (TRef.of (T := ⟨S_, .i32⟩) main_call7_c_2) (TRef.of (T := ⟨S256x2x1, .i32⟩) main_call7_v6) (broadcastInDim S256x2x1 ![] bcast_S_S256x2x1),
    TRef.binary (TRef.of (T := ⟨S256x2x1, .i32⟩) main_call7_v5) (TRef.of (T := ⟨S256x2x1, .i32⟩) main_call7_v6) (TRef.of (T := ⟨S256x2x1, .i1⟩) main_call7_v7) (cmpi .sge),
    TRef.unary (TRef.of (T := ⟨S1, .i32⟩) main_call7_c_1) (TRef.of (T := ⟨S1x1x1, .i32⟩) main_call7_v8) (broadcastInDim S1x1x1 ![2] bcast_S1_S1x1x1_2),
    TRef.unary (TRef.of (T := ⟨S1x1x1, .i32⟩) main_call7_v8) (TRef.of (T := ⟨S256x2x1, .i32⟩) main_call7_v9) (broadcastInDim S256x2x1 ![0, 1, 2] bcast_S1x1x1_S256x2x1_0_1_2),
    TRef.binary (TRef.of (T := ⟨S256x2x1, .i32⟩) main_call7_v5) (TRef.of (T := ⟨S256x2x1, .i32⟩) main_call7_v9) (TRef.of (T := ⟨S256x2x1, .i1⟩) main_call7_v10) (cmpi .sle),
    TRef.binary (TRef.of (T := ⟨S256x2x1, .i1⟩) main_call7_v7) (TRef.of (T := ⟨S256x2x1, .i1⟩) main_call7_v10) (TRef.of (T := ⟨S256x2x1, .i1⟩) main_call7_v11) andi,
    TRef.nullary (TRef.of (T := ⟨S_, .i1⟩) main_call7_c_3) (constantI S_ 1 1#1),
    TRef.binary (TRef.of (T := ⟨S256x2x1, .i1⟩) main_call7_v11) (TRef.of (T := ⟨S_, .i1⟩) main_call7_c_3) (TRef.of (T := ⟨S256x2, .i1⟩) main_call7_v12) (fun x v => Host.reduce IntOp.andi x v reducesTo_S256x2x1_S256x2_d2 h_S_),
    TRef.binary (TRef.of (T := ⟨S256x131072, .f32⟩) main_v19) (TRef.of (T := ⟨S256x2x1, .i32⟩) main_call7_v5) (TRef.of (T := ⟨S256x2, .f32⟩) main_call7_v13) (fun x i => Host.gather gather_S256x131072_S256x2x1_S256x2_n_1_0_0_1_2_11 x i),
    TRef.nullary (TRef.of (T := ⟨S_, .f32⟩) main_call7_cst) (constant S_ .f32 0x7FC00000#32),
    TRef.unary (TRef.of (T := ⟨S_, .f32⟩) main_call7_cst) (TRef.of (T := ⟨S256x2, .f32⟩) main_call7_v14) (broadcastInDim S256x2 ![] bcast_S_S256x2),
    TRef.ternary (TRef.of (T := ⟨S256x2, .i1⟩) main_call7_v12) (TRef.of (T := ⟨S256x2, .f32⟩) main_call7_v13) (TRef.of (T := ⟨S256x2, .f32⟩) main_call7_v14) (TRef.of (T := ⟨S256x2, .f32⟩) main_v29) select ]

/-- The buffers they write. -/
abbrev opsGetW_W : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_cst, main_call7_v14, main_v29]

/-- They write no other buffer. -/
theorem opsGetW_writes : (opsGetW : List (HloOp τ sig (Elt F))).Forall fun op => op.writes ⊆ (opsGetW_W.map (Proc.devRef (τ := τ) .tc)).toFinset :=
  forall_writes_sub_of_map rfl

/-- They name buffers of the TensorCore only. -/
theorem opsGetW_sub : (opsGetW : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

/-- The operations of the shifted weight. -/
abbrev opsEps : List (HloOp τ sig (Elt F)) :=
  [ nullary main_cst_6 (constant S_ .f32 0x33D6BF95#32),
    unary main_cst_6 main_v30 (broadcastInDim S256x2 ![] bcast_S_S256x2 : (⟨S_, .f32⟩ : BufTy).Contents (Elt F) → (⟨S256x2, .f32⟩ : BufTy).Contents (Elt F)),
    binary main_v29 main_v30 main_v31 (addf : (⟨S256x2, .f32⟩ : BufTy).Contents (Elt F) → (⟨S256x2, .f32⟩ : BufTy).Contents (Elt F) → (⟨S256x2, .f32⟩ : BufTy).Contents (Elt F)) ]

/-- The buffers they write. -/
abbrev opsEps_W : List (Ref sig .tc) := [main_cst_6, main_v30, main_v31]

/-- They write no other buffer. -/
theorem opsEps_writes : (opsEps : List (HloOp τ sig (Elt F))).Forall fun op => op.writes ⊆ (opsEps_W.map (Proc.devRef (τ := τ) .tc)).toFinset :=
  forall_writes_sub_of_map rfl

/-- They name buffers of the TensorCore only. -/
theorem opsEps_sub : (opsEps : List (HloOp τ sig (Elt F))).Forall fun op => op.bufs ⊆ tcRefs τ sig :=
  ⟨nullary_bufs_sub .., unary_bufs_sub .., binary_bufs_sub ..⟩

/-- The operations of the modulation at the place. -/
abbrev opsGetM : List (HloOp τ sig (Elt F)) :=
  [ TRef.nullary (TRef.of (T := ⟨S_, .i32⟩) main_call8_c) (constantI S_ 32 0#32),
    TRef.unary (TRef.of (T := ⟨S_, .i32⟩) main_call8_c) (TRef.of (T := ⟨S256x2, .i32⟩) main_call8_v0) (broadcastInDim S256x2 ![] bcast_S_S256x2),
    TRef.binary (TRef.of (T := ⟨S256x2, .i32⟩) main_v26) (TRef.of (T := ⟨S256x2, .i32⟩) main_call8_v0) (TRef.of (T := ⟨S256x2, .i1⟩) main_call8_v1) (cmpi .slt),
    TRef.nullary (TRef.of (T := ⟨S_, .i32⟩) main_call8_c_0) (constantI S_ 32 131072#32),
    TRef.unary (TRef.of (T := ⟨S_, .i32⟩) main_call8_c_0) (TRef.of (T := ⟨S256x2, .i32⟩) main_call8_v2) (broadcastInDim S256x2 ![] bcast_S_S256x2),
    TRef.binary (TRef.of (T := ⟨S256x2, .i32⟩) main_v26) (TRef.of (T := ⟨S256x2, .i32⟩) main_call8_v2) (TRef.of (T := ⟨S256x2, .i32⟩) main_call8_v3) addi,
    TRef.ternary (TRef.of (T := ⟨S256x2, .i1⟩) main_call8_v1) (TRef.of (T := ⟨S256x2, .i32⟩) main_call8_v3) (TRef.of (T := ⟨S256x2, .i32⟩) main_v26) (TRef.of (T := ⟨S256x2, .i32⟩) main_call8_v4) select,
    TRef.reshape (TRef.of (T := ⟨S256x2, .i32⟩) main_call8_v4) (TRef.of (T := ⟨S256x2x1, .i32⟩) main_call8_v5) (rfl : (.i32 : EltTy) = .i32) shapeCasts_S256x2_S256x2x1,
    TRef.nullary (TRef.of (T := ⟨S1, .i32⟩) main_call8_c_1) (constantI S1 32 131071#32),
    TRef.nullary (TRef.of (T := ⟨S_, .i32⟩) main_call8_c_2) (constantI S_ 32 0#32),
    TRef.unary (TRef.of (T := ⟨S_, .i32⟩) main_call8_c_2) (TRef.of (T := ⟨S256x2x1, .i32⟩) main_call8_v6) (broadcastInDim S256x2x1 ![] bcast_S_S256x2x1),
    TRef.binary (TRef.of (T := ⟨S256x2x1, .i32⟩) main_call8_v5) (TRef.of (T := ⟨S256x2x1, .i32⟩) main_call8_v6) (TRef.of (T := ⟨S256x2x1, .i1⟩) main_call8_v7) (cmpi .sge),
    TRef.unary (TRef.of (T := ⟨S1, .i32⟩) main_call8_c_1) (TRef.of (T := ⟨S1x1x1, .i32⟩) main_call8_v8) (broadcastInDim S1x1x1 ![2] bcast_S1_S1x1x1_2),
    TRef.unary (TRef.of (T := ⟨S1x1x1, .i32⟩) main_call8_v8) (TRef.of (T := ⟨S256x2x1, .i32⟩) main_call8_v9) (broadcastInDim S256x2x1 ![0, 1, 2] bcast_S1x1x1_S256x2x1_0_1_2),
    TRef.binary (TRef.of (T := ⟨S256x2x1, .i32⟩) main_call8_v5) (TRef.of (T := ⟨S256x2x1, .i32⟩) main_call8_v9) (TRef.of (T := ⟨S256x2x1, .i1⟩) main_call8_v10) (cmpi .sle),
    TRef.binary (TRef.of (T := ⟨S256x2x1, .i1⟩) main_call8_v7) (TRef.of (T := ⟨S256x2x1, .i1⟩) main_call8_v10) (TRef.of (T := ⟨S256x2x1, .i1⟩) main_call8_v11) andi,
    TRef.nullary (TRef.of (T := ⟨S_, .i1⟩) main_call8_c_3) (constantI S_ 1 1#1),
    TRef.binary (TRef.of (T := ⟨S256x2x1, .i1⟩) main_call8_v11) (TRef.of (T := ⟨S_, .i1⟩) main_call8_c_3) (TRef.of (T := ⟨S256x2, .i1⟩) main_call8_v12) (fun x v => Host.reduce IntOp.andi x v reducesTo_S256x2x1_S256x2_d2 h_S_),
    TRef.binary (TRef.of (T := ⟨S256x131072, .f32⟩) main_v14) (TRef.of (T := ⟨S256x2x1, .i32⟩) main_call8_v5) (TRef.of (T := ⟨S256x2, .f32⟩) main_call8_v13) (fun x i => Host.gather gather_S256x131072_S256x2x1_S256x2_n_1_0_0_1_2_11 x i),
    TRef.nullary (TRef.of (T := ⟨S_, .f32⟩) main_call8_cst) (constant S_ .f32 0x7FC00000#32),
    TRef.unary (TRef.of (T := ⟨S_, .f32⟩) main_call8_cst) (TRef.of (T := ⟨S256x2, .f32⟩) main_call8_v14) (broadcastInDim S256x2 ![] bcast_S_S256x2),
    TRef.ternary (TRef.of (T := ⟨S256x2, .i1⟩) main_call8_v12) (TRef.of (T := ⟨S256x2, .f32⟩) main_call8_v13) (TRef.of (T := ⟨S256x2, .f32⟩) main_call8_v14) (TRef.of (T := ⟨S256x2, .f32⟩) main_v32) select ]

/-- The buffers they write. -/
abbrev opsGetM_W : List (Ref sig .tc) := [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_cst, main_call8_v14, main_v32]

/-- They write no other buffer. -/
theorem opsGetM_writes : (opsGetM : List (HloOp τ sig (Elt F))).Forall fun op => op.writes ⊆ (opsGetM_W.map (Proc.devRef (τ := τ) .tc)).toFinset :=
  forall_writes_sub_of_map rfl

/-- They name buffers of the TensorCore only. -/
theorem opsGetM_sub : (opsGetM : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

/-- The operations of the ratio. -/
abbrev opsRat : List (HloOp τ sig (Elt F)) :=
  [ nullary main_cst_7 (constant S_ .f32 0x37800000#32),
    unary main_cst_7 main_v33 (broadcastInDim S256x2 ![] bcast_S_S256x2 : (⟨S_, .f32⟩ : BufTy).Contents (Elt F) → (⟨S256x2, .f32⟩ : BufTy).Contents (Elt F)),
    binary main_v33 main_v32 main_v34 (mulf : (⟨S256x2, .f32⟩ : BufTy).Contents (Elt F) → (⟨S256x2, .f32⟩ : BufTy).Contents (Elt F) → (⟨S256x2, .f32⟩ : BufTy).Contents (Elt F)),
    binary main_v34 main_v31 main_v35 (Host.divf : (⟨S256x2, .f32⟩ : BufTy).Contents (Elt F) → (⟨S256x2, .f32⟩ : BufTy).Contents (Elt F) → (⟨S256x2, .f32⟩ : BufTy).Contents (Elt F)) ]

/-- The buffers they write. -/
abbrev opsRat_W : List (Ref sig .tc) := [main_cst_7, main_v33, main_v34, main_v35]

/-- They write no other buffer. -/
theorem opsRat_writes : (opsRat : List (HloOp τ sig (Elt F))).Forall fun op => op.writes ⊆ (opsRat_W.map (Proc.devRef (τ := τ) .tc)).toFinset :=
  forall_writes_sub_of_map rfl

/-- They name buffers of the TensorCore only. -/
theorem opsRat_sub : (opsRat : List (HloOp τ sig (Elt F))).Forall fun op => op.bufs ⊆ tcRefs τ sig :=
  ⟨nullary_bufs_sub .., unary_bufs_sub .., binary_bufs_sub .., binary_bufs_sub ..⟩

/-- The operations of `@main`, in order. -/
abbrev ops : List (HloOp τ sig (Elt F)) :=
  opsRot ++ (opsLen ++ (opsTake ++ (opsDots ++ (opsClip ++ (opsNorm ++ (opsSums ++ (opsBelow ++ (opsArg ++ (opsRow ++ (opsCol ++ (opsGetW ++ (opsEps ++ (opsGetM ++ (opsRat))))))))))))))

/-- `@main` is their run. -/
theorem main_eq (c : Dev nD) : main (F := F) c = seq ops := rfl

/-- No buffer of the TensorCore is scoped. -/
theorem scopedRefs_eq : (Finset.univ.filter fun b : Ref sig .tc => b.isScoped) = ∅ := by decide
/-- No semaphore of the TensorCore is scoped. -/
theorem scopedSems_eq : (Finset.univ.filter fun sm : SemLoc sig => sm.isScoped .tc) = ∅ := by decide

/-- Two stretches one after the other. -/
theorem after_append (a b : List (HloOp τ sig (Elt F))) (V : Valuation τ sig (Elt F)) : after (a ++ b) V = after b (after a V) := by
  induction a generalizing V with
  | nil => rfl
  | cons op a ih => exact ih _

/-- What holds of each operation of two lists holds of each operation of both. -/
theorem forall_append' {p : HloOp τ sig (Elt F) → Prop} {a b : List (HloOp τ sig (Elt F))} (ha : a.Forall p) (hb : b.Forall p) : (a ++ b).Forall p := by
  rw [List.forall_iff_forall_mem] at ha hb ⊢
  exact fun x hx => (List.mem_append.mp hx).elim (ha x) (hb x)

/-- The operations name buffers of the TensorCore only. -/
theorem ops_sub : (ops : List (HloOp τ sig (Elt F))).Forall fun op => op.bufs ⊆ tcRefs τ sig :=
  forall_append' opsRot_sub <| forall_append' opsLen_sub <| forall_append' opsTake_sub <| forall_append' opsDots_sub <| forall_append' opsClip_sub <| forall_append' opsNorm_sub <| forall_append' opsSums_sub <| forall_append' opsBelow_sub <| forall_append' opsArg_sub <| forall_append' opsRow_sub <| forall_append' opsCol_sub <| forall_append' opsGetW_sub <| forall_append' opsEps_sub <| forall_append' opsGetM_sub <| opsRat_sub

/-- From any memory with zero counters, every weakly fair execution of the reference's `@main` terminates with each
    buffer at what the operations leave. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ

end Cert.RefRun

end
-- ==== Proof.Values.lean ====
module

public import proofs.«01_k».proof.Proof.Gen.KernelIdeal

/-!
# The values both programs compute, as named functions

Each stretch of host operations that the kernel's and the reference's `@main` share is written here once, as a
pure function of what it reads. Both runs are then read back in these names.
-/

@[expose] public section

set_option maxRecDepth 16384

noncomputable section

namespace Cert.Sampling

open Cert.KernelIdeal Cert.KernelIdeal.Gen Idealize.ShloMosaic Idealize.ShloMosaic.TcCoe Idealize.SL.Sem

variable {F : FTy → Type} [FloatOps F]

/-- The zero the sums start from. -/
abbrev zero : FVec F S_ .f32 := constant S_ .f32 0x00000000#32

/-- The identity matrix, as the kernel's host code builds it. -/
def eye : FVec F S3x3 .f32 :=
  uitofp .f32 (cmpi .eq (addi (iotaInDim S3x3 32 0) (broadcastInDim S3x3 ![] bcast_S_S3x3 (constantI S_ 32 0#32)))
    (iotaInDim S3x3 32 1))

/-- The constant rotation. -/
def rot : FVec F S3x3 .f32 := fun i => FloatOps.ofBits .f32 (lit0 (S3x3.rowMajor i))

/-- A product of two 3×3 matrices, as the sum of products the kernel's host code takes. -/
def prodSq (a b : FVec F S3x3 .f32) : FVec F S3x3 .f32 :=
  Host.reduceAdd (mulf (broadcastInDim S3x3x3 ![0, 1, 2] bcast_S3x3x1_S3x3x3_0_1_2 (broadcastInDim S3x3x1 ![0, 1] bcast_S3x3_S3x3x1_0_1 a))
    (broadcastInDim S3x3x3 ![0, 1, 2] bcast_S1x3x3_S3x3x3_0_1_2 (broadcastInDim S1x3x3 ![1, 2] bcast_S3x3_S1x3x3_1_2 b)))
    zero reducesTo_S3x3x3_S3x3_d1 h_S_

/-- A product of a 3×3 and a 3×256 matrix, likewise. -/
def prodWide (a : FVec F S3x3 .f32) (b : FVec F S3x256 .f32) : FVec F S3x256 .f32 :=
  Host.reduceAdd (mulf (broadcastInDim S3x3x256 ![0, 1, 2] bcast_S3x3x1_S3x3x256_0_1_2 (broadcastInDim S3x3x1 ![0, 1] bcast_S3x3_S3x3x1_0_1 a))
    (broadcastInDim S3x3x256 ![0, 1, 2] bcast_S1x3x256_S3x3x256_0_1_2 (broadcastInDim S1x3x256 ![1, 2] bcast_S3x256_S1x3x256_1_2 b)))
    zero reducesTo_S3x3x256_S3x256_d1 h_S_

/-- The rotated normals as the kernel's host code computes them. -/
def rotated (n : FVec F S256x3 .f32) : FVec F S256x3 .f32 :=
  transpose S256x3 [1, 0] (prodWide (prodSq eye rot) (transpose S3x256 [1, 0] n transposes_S256x3_S3x256_1_0))
    transposes_S3x256_S256x3_1_0

/-- The environment map as 3 rows of 131072 texels. -/
def envRows (e : FVec F S1x256x512x3 .f32) : FVec F S3x131072 .f32 :=
  transpose S3x131072 [1, 0] (shapeCast S131072x3 e shapeCasts_S1x256x512x3_S131072x3) transposes_S131072x3_S3x131072_1_0

/-- The directions as 3 rows of 131072. -/
def dirRows (d : FVec F S256x512x3 .f32) : FVec F S3x131072 .f32 :=
  transpose S3x131072 [1, 0] (shapeCast S131072x3 d shapeCasts_S256x512x3_S131072x3) transposes_S131072x3_S3x131072_1_0

/-- The samples without their last axis. -/
def samples (p : FVec F S256x2x1 .f32) : FVec F S256x2 .f32 := shapeCast S256x2 p shapeCasts_S256x2x1_S256x2

/-- The product of every direction with every (rotated) normal. -/
def dots (d : FVec F S256x512x3 .f32) (rn : FVec F S256x3 .f32) : FVec F S256x131072 .f32 :=
  Host.reduceAdd (mulf
    (broadcastInDim S256x131072x3 ![0, 1, 2] bcast_S1x131072x3_S256x131072x3_0_1_2
      (broadcastInDim S1x131072x3 ![1, 2] bcast_S131072x3_S1x131072x3_1_2 (shapeCast S131072x3 d shapeCasts_S256x512x3_S131072x3)))
    (broadcastInDim S256x131072x3 ![0, 1, 2] bcast_S256x1x3_S256x131072x3_0_1_2
      (broadcastInDim S256x1x3 ![0, 2] bcast_S256x3_S256x1x3_0_2 rn)))
    zero reducesTo_S256x131072x3_S256x131072_d2 h_S_

/-- Clipping between two scalars. -/
def clip (x : FVec F S256x131072 .f32) (lo hi : FVec F S_ .f32) : FVec F S256x131072 .f32 :=
  minimumf (broadcastInDim S256x131072 ![] bcast_S_S256x131072 (id hi))
    (maximumf (broadcastInDim S256x131072 ![] bcast_S_S256x131072 (id lo)) x)

/-- The modulation map: the products, clipped to `[0, 1]`. -/
def modulation (d : FVec F S256x512x3 .f32) (rn : FVec F S256x3 .f32) : FVec F S256x131072 .f32 :=
  clip (dots d rn) zero (constant S_ .f32 0x3F800000#32)

/-- The length of every texel. -/
def lengths (e : FVec F S1x256x512x3 .f32) : FVec F S1x256x512 .f32 :=
  Host.sqrt (Host.reduceAdd (mulf e e) zero reducesTo_S1x256x512x3_S1x256x512_d3 h_S_)

/-- The texels as one row. -/
def flat (x : FVec F S1x256x512 .f32) : FVec F S1x131072 .f32 := shapeCast S1x131072 x shapeCasts_S1x256x512_S1x131072

/-- The row numbers of a lookup, negative ones counted from the end, with a trailing axis. -/
def takeIdx (i : IVec S256 32) : IVec S256x1 32 :=
  broadcastInDim S256x1 ![0] bcast_S256_S256x1_0
    (select (cmpi .slt i (broadcastInDim S256 ![] bcast_S_S256 (constantI S_ 32 0#32)))
      (addi i (broadcastInDim S256 ![] bcast_S_S256 (constantI S_ 32 1#32))) i)

/-- Which row numbers of a lookup are in range. -/
def takeOk (i : IVec S256 32) : IVec S256 1 :=
  Host.reduce IntOp.andi
    (andi (cmpi .sge (takeIdx i) (broadcastInDim S256x1 ![] bcast_S_S256x1 (constantI S_ 32 0#32)))
      (cmpi .sle (takeIdx i) (broadcastInDim S256x1 ![0, 1] bcast_S1x1_S256x1_0_1 (broadcastInDim S1x1 ![1] bcast_S1_S1x1_1 (constantI S1 32 0#32)))))
    (constantI S_ 1 1#1) reducesTo_S256x1_S256_d1 h_S_

/-- The lookup of rows by number, out of range filled. -/
def takeRows (x : FVec F S1x131072 .f32) (i : IVec S256 32) : FVec F S256x131072 .f32 :=
  select (broadcastInDim S256x131072 ![0] bcast_S256_S256x131072_0 (takeOk i))
    (Host.gather gather_S1x131072_S256x1_S256x131072_1_0_n_n_0_1_1131072 x (takeIdx i))
    (broadcastInDim S256x131072 ![] bcast_S_S256x131072 (constant S_ .f32 0x7FC00000#32))

/-- Each row divided by its sum. -/
def normalized (w : FVec F S256x131072 .f32) : FVec F S256x131072 .f32 :=
  Host.divf w (broadcastInDim S256x131072 ![0, 1] bcast_S256x1_S256x131072_0_1 (broadcastInDim S256x1 ![0] bcast_S256_S256x1_0
    (Host.reduceAdd w zero reducesTo_S256x131072_S256_d1 h_S_)))

/-- The running sums of each row. -/
def cumsum (w : FVec F S256x131072 .f32) : FVec F S256x131072 .f32 :=
  Host.reduceWindowAdd ![1, 131072] ![1, 1] ![0, 131071] ![0, 0] w (broadcastInDim S_ ![] bcast_S_S_ zero)
    reduceWindows_S256x131072_S256x131072_w1s1p0_0_w131072s1p131071_0 h_S_

/-- The weight map: intensity times modulation, each row divided by its sum. -/
def weights (i : IVec S256 32) (e : FVec F S1x256x512x3 .f32) (md : FVec F S256x131072 .f32) : FVec F S256x131072 .f32 :=
  normalized (mulf (takeRows (flat (lengths e)) i) md)

/-- Where the kernel's sampling pass found no column. -/
def noHit (ch : IVec S256x2 32) : IVec S256x2 1 :=
  cmpi .sge ch (broadcastInDim S256x2 ![] bcast_S_S256x2 (constantI S_ 32 131072#32))

/-- The column chosen, column 0 where none was found. -/
def chosen (ch : IVec S256x2 32) : IVec S256x2 32 :=
  select (noHit ch) (broadcastInDim S256x2 ![] bcast_S_S256x2 (id (constantI S_ 32 0#32))) ch

/-- What the sampling pass captured, the value at column 0 of `w` where it found no column. -/
def captured (ch : IVec S256x2 32) (w : FVec F S256x131072 .f32) (q : FVec F S256x2 .f32) : FVec F S256x2 .f32 :=
  select (noHit ch) (broadcastInDim S256x2 ![0, 1] bcast_S256x1_S256x2_0_1 (extractStridedSlice S256x1 ![0, 0] w slices_S256x131072_S256x1_0_0)) q

/-- The ratio of modulation to weight, as both programs form it from the two captured values. -/
def ratio (q md : FVec F S256x2 .f32) : FVec F S256x2 .f32 :=
  Host.divf (mulf (broadcastInDim S256x2 ![] bcast_S_S256x2 (constant S_ .f32 0x37800000#32)) md)
    (addf q (broadcastInDim S256x2 ![] bcast_S_S256x2 (constant S_ .f32 0x33D6BF95#32)))

/-- The quotient rounded down. -/
def floorDiv (ch : IVec S256x2 32) (w : IVec S_ 32) : IVec S256x2 32 :=
  select
    (andi (cmpi .ne (signi ch) (broadcastInDim S256x2 ![] bcast_S_S256x2 (signi (id w))))
      (cmpi .ne (Host.remsi ch (broadcastInDim S256x2 ![] bcast_S_S256x2 (id w))) (broadcastInDim S256x2 ![] bcast_S_S256x2 (constantI S_ 32 0#32))))
    (subi (Host.divsi ch (broadcastInDim S256x2 ![] bcast_S_S256x2 (id w))) (broadcastInDim S256x2 ![] bcast_S_S256x2 (constantI S_ 32 1#32)))
    (Host.divsi ch (broadcastInDim S256x2 ![] bcast_S_S256x2 (id w)))

/-- The divisor of a remainder, 1 where it is 0. -/
def divisor (w : IVec S_ 32) : IVec S_ 32 := select (cmpi .eq (id w) (constantI S_ 32 0#32)) (constantI S_ 32 1#32) (id w)

/-- The remainder with the divisor's sign. -/
def remainder (ch : IVec S256x2 32) (w : IVec S_ 32) : IVec S256x2 32 :=
  select
    (andi (cmpi .ne (cmpi .slt (Host.remsi ch (broadcastInDim S256x2 ![] bcast_S_S256x2 (divisor w))) (broadcastInDim S256x2 ![] bcast_S_S256x2 (constantI S_ 32 0#32)))
        (broadcastInDim S256x2 ![] bcast_S_S256x2 (cmpi .slt (divisor w) (constantI S_ 32 0#32))))
      (cmpi .ne (Host.remsi ch (broadcastInDim S256x2 ![] bcast_S_S256x2 (divisor w))) (broadcastInDim S256x2 ![] bcast_S_S256x2 (constantI S_ 32 0#32))))
    (addi (Host.remsi ch (broadcastInDim S256x2 ![] bcast_S_S256x2 (divisor w))) (broadcastInDim S256x2 ![] bcast_S_S256x2 (divisor w)))
    (Host.remsi ch (broadcastInDim S256x2 ![] bcast_S_S256x2 (divisor w)))

end Cert.Sampling

end
-- ==== Proof.RefHost.lean ====
module

public import proofs.«01_k».proof.Proof.RefRun
public import proofs.«01_k».proof.Proof.Values

/-!
# The reference's stretches, read back

What each stretch of the reference leaves in the buffers a later stretch or a result reads, in the names of `Values`
and, for what only the reference computes, in the names given here.
-/

@[expose] public section

set_option maxRecDepth 16384
set_option maxHeartbeats 1000000

noncomputable section

namespace Cert.RefRun

open Cert.ReferenceIdeal Cert.ReferenceIdeal.Gen Idealize.ShloMosaic Idealize.ShloMosaic.TcCoe Idealize.SL.Sem
open Idealize.ShloMosaic.StableHlo

variable {F : FTy → Type} [FloatOps F]
variable (V : Valuation τ sig (Elt F))

/-- The rotated normals as the reference computes them, two matrix products. -/
def refRotated (n : FVec F S256x3 .f32) : FVec F S256x3 .f32 :=
  transpose S256x3 [1, 0] (Host.dotGeneral dot_S3x3_S3x256_S3x256_1_0_0_1_n_n none
    (Host.dotGeneral dot_S3x3_S3x3_S3x3_1_0_0_1_n_n none
      ((fun i => FloatOps.ofBits .f32 (lit1 (S3x3.rowMajor i)) : FVec F S3x3 .f32))
      ((fun i => FloatOps.ofBits .f32 (lit0 (S3x3.rowMajor i)) : FVec F S3x3 .f32)) : FVec F S3x3 .f32)
    (transpose S3x256 [1, 0] n transposes_S256x3_S3x256_1_0) : FVec F S3x256 .f32) transposes_S3x256_S256x3_1_0

/-- Where a sample is below a running sum, as a word. -/
def below (p : FVec F S256x2x1 .f32) (cs : FVec F S256x131072 .f32) : IVec S256x2x131072 32 :=
  extui 32 (cmpf .olt (broadcastInDim S256x2x131072 ![0, 1, 2] bcast_S256x2x1_S256x2x131072_0_1_2 p)
    (broadcastInDim S256x2x131072 ![0, 1, 2] bcast_S256x1x131072_S256x2x131072_0_1_2
      (broadcastInDim S256x1x131072 ![0, 2] bcast_S256x131072_S256x1x131072_0_2 cs))) natLt_1_32

/-- The first place of the greatest word along the last axis. -/
def firstTop (b : IVec S256x2x131072 32) : IVec S256x2 32 := fun j =>
  (Host.reduce2 reducer_argmax_i32_i32 b (iotaInDim S256x2x131072 32 2) (constantI S_ 32 2147483648#32) (constantI S_ 32 0#32)
    reducesTo_S256x2x131072_S256x2_d2 h_S_ j).2

/-- The places of a lookup along rows, negative ones counted from the end, with a trailing axis. -/
def alongIdx (ch : IVec S256x2 32) : IVec S256x2x1 32 :=
  shapeCast S256x2x1 (select (cmpi .slt ch (broadcastInDim S256x2 ![] bcast_S_S256x2 (constantI S_ 32 0#32)))
    (addi ch (broadcastInDim S256x2 ![] bcast_S_S256x2 (constantI S_ 32 131072#32))) ch) shapeCasts_S256x2_S256x2x1

/-- Which places of the lookup are in range. -/
def alongOk (ch : IVec S256x2 32) : IVec S256x2 1 :=
  Host.reduce IntOp.andi
    (andi (cmpi .sge (alongIdx ch) (broadcastInDim S256x2x1 ![] bcast_S_S256x2x1 (constantI S_ 32 0#32)))
      (cmpi .sle (alongIdx ch) (broadcastInDim S256x2x1 ![0, 1, 2] bcast_S1x1x1_S256x2x1_0_1_2
        (broadcastInDim S1x1x1 ![2] bcast_S1_S1x1x1_2 (constantI S1 32 131071#32)))))
    (constantI S_ 1 1#1) reducesTo_S256x2x1_S256x2_d2 h_S_

/-- The lookup along rows, out of range filled. -/
def along (x : FVec F S256x131072 .f32) (ch : IVec S256x2 32) : FVec F S256x2 .f32 :=
  select (alongOk ch) (Host.gather gather_S256x131072_S256x2x1_S256x2_n_1_0_0_1_2_11 x (alongIdx ch))
    (broadcastInDim S256x2 ![] bcast_S_S256x2 (constant S_ .f32 0x7FC00000#32))

/-- The first stretch leaves the rotated normals, with an axis between. -/
theorem rot_v4 : after opsRot V (Proc.devRef .tc main_v4)
    = (broadcastInDim S256x1x3 ![0, 2] bcast_S256x3_S256x1x3_0_2 (refRotated (V (Proc.devRef .tc main_arg1)) : FVec F S256x3 .f32) : FVec F S256x1x3 .f32) := by
  simp only [opsRot]; after_results_simp <;> rfl

/-- The lengths, as one row. -/
theorem len_v6 : after opsLen V (Proc.devRef .tc main_v6) = Sampling.flat (Sampling.lengths (V (Proc.devRef .tc main_arg3))) := by
  simp only [opsLen, TRef.binary, TRef.nullary, TRef.reshape, TRef.ternary, TRef.unary, TRef.toBuf, TRef.ofBuf, cast_eq]
  after_results_simp <;> rfl

/-- The lookup of rows. -/
theorem take_v7 : after opsTake V (Proc.devRef .tc main_v7)
    = Sampling.takeRows (V (Proc.devRef .tc main_v6)) (V (Proc.devRef .tc main_arg0)) := by
  simp only [opsTake, TRef.binary, TRef.nullary, TRef.reshape, TRef.ternary, TRef.unary, TRef.toBuf, TRef.ofBuf, cast_eq]
  after_results_simp <;> rfl

/-- The products of the directions with the normals. -/
theorem dots_v13 (rn : FVec F S256x3 .f32)
    (h : V (Proc.devRef .tc main_v4) = (broadcastInDim S256x1x3 ![0, 2] bcast_S256x3_S256x1x3_0_2 rn : FVec F S256x1x3 .f32)) :
    after opsDots V (Proc.devRef .tc main_v13) = Sampling.dots (V (Proc.devRef .tc main_arg4)) rn := by
  have e : after opsDots V (Proc.devRef .tc main_v13)
      = (Host.reduceAdd (mulf
          (broadcastInDim S256x131072x3 ![0, 1, 2] bcast_S1x131072x3_S256x131072x3_0_1_2
            (broadcastInDim S1x131072x3 ![1, 2] bcast_S131072x3_S1x131072x3_1_2 (shapeCast S131072x3 (V (Proc.devRef .tc main_arg4) : FVec F S256x512x3 .f32) shapeCasts_S256x512x3_S131072x3)))
          (broadcastInDim S256x131072x3 ![0, 1, 2] bcast_S256x1x3_S256x131072x3_0_1_2 (V (Proc.devRef .tc main_v4) : FVec F S256x1x3 .f32)))
          (constant S_ .f32 0x00000000#32) reducesTo_S256x131072x3_S256x131072_d2 h_S_ : FVec F S256x131072 .f32) := by
    simp only [opsDots]; after_results_simp <;> rfl
  rw [e, h]; rfl

/-- The lower bound of the clipping. -/
theorem dots_lo : after opsDots V (Proc.devRef .tc main_cst_2) = (constant S_ .f32 0x00000000#32 : FVec F S_ .f32) := by
  simp only [opsDots]; after_results_simp <;> rfl

/-- The upper bound of the clipping. -/
theorem dots_hi : after opsDots V (Proc.devRef .tc main_cst_3) = (constant S_ .f32 0x3F800000#32 : FVec F S_ .f32) := by
  simp only [opsDots]; after_results_simp <;> rfl

/-- The clipping. -/
theorem clip_v14 : after opsClip V (Proc.devRef .tc main_v14)
    = Sampling.clip (V (Proc.devRef .tc main_v13)) (V (Proc.devRef .tc main_cst_2)) (V (Proc.devRef .tc main_cst_3)) := by
  simp only [opsClip, TRef.binary, TRef.nullary, TRef.reshape, TRef.ternary, TRef.unary, TRef.toBuf, TRef.ofBuf, cast_eq]
  after_results_simp <;> rfl

/-- The rows divided by their sums. -/
theorem norm_v19 : after opsNorm V (Proc.devRef .tc main_v19)
    = Sampling.normalized (mulf (V (Proc.devRef .tc main_v7) : FVec F S256x131072 .f32) (V (Proc.devRef .tc main_v14) : FVec F S256x131072 .f32)) := by
  simp only [opsNorm]; after_results_simp <;> rfl

/-- The running sums. -/
theorem sums_v20 : after opsSums V (Proc.devRef .tc main_v20) = Sampling.cumsum (V (Proc.devRef .tc main_v19)) := by
  simp only [opsSums, TRef.binary, TRef.nullary, TRef.reshape, TRef.ternary, TRef.unary, TRef.toBuf, TRef.ofBuf, cast_eq]
  after_results_simp <;> rfl

/-- The comparison with the samples. -/
theorem below_v25 : after opsBelow V (Proc.devRef .tc main_v25) = below (V (Proc.devRef .tc main_arg2)) (V (Proc.devRef .tc main_v20)) := by
  simp only [opsBelow]; after_results_simp <;> rfl

/-- The first place of the greatest word. -/
theorem arg_v26 : after opsArg V (Proc.devRef .tc main_v26) = firstTop (V (Proc.devRef .tc main_v25)) := by
  simp only [opsArg, TRef.quaternary, TRef.binary, TRef.nullary, TRef.reshape, TRef.ternary, TRef.unary, TRef.toBuf, TRef.ofBuf, cast_eq]
  after_results_simp <;> rfl

/-- The row of the place. -/
theorem row_v27 : after opsRow V (Proc.devRef .tc main_v27) = Sampling.floorDiv (V (Proc.devRef .tc main_v26)) (constantI S_ 32 512#32) := by
  simp only [opsRow, TRef.binary, TRef.nullary, TRef.reshape, TRef.ternary, TRef.unary, TRef.toBuf, TRef.ofBuf, cast_eq]
  after_results_simp <;> rfl

/-- The column of the place. -/
theorem col_v28 : after opsCol V (Proc.devRef .tc main_v28) = Sampling.remainder (V (Proc.devRef .tc main_v26)) (constantI S_ 32 512#32) := by
  simp only [opsCol, TRef.binary, TRef.nullary, TRef.reshape, TRef.ternary, TRef.unary, TRef.toBuf, TRef.ofBuf, cast_eq]
  after_results_simp <;> rfl

/-- The weight at the place. -/
theorem getW_v29 : after opsGetW V (Proc.devRef .tc main_v29) = along (V (Proc.devRef .tc main_v19)) (V (Proc.devRef .tc main_v26)) := by
  simp only [opsGetW, TRef.binary, TRef.nullary, TRef.reshape, TRef.ternary, TRef.unary, TRef.toBuf, TRef.ofBuf, cast_eq]
  after_results_simp <;> rfl

/-- The shifted weight. -/
theorem eps_v31 : after opsEps V (Proc.devRef .tc main_v31)
    = (addf (V (Proc.devRef .tc main_v29) : FVec F S256x2 .f32) (broadcastInDim S256x2 ![] bcast_S_S256x2 (constant S_ .f32 0x33D6BF95#32)) : FVec F S256x2 .f32) := by
  simp only [opsEps]; after_results_simp <;> rfl

/-- The modulation at the place. -/
theorem getM_v32 : after opsGetM V (Proc.devRef .tc main_v32) = along (V (Proc.devRef .tc main_v14)) (V (Proc.devRef .tc main_v26)) := by
  simp only [opsGetM, TRef.binary, TRef.nullary, TRef.reshape, TRef.ternary, TRef.unary, TRef.toBuf, TRef.ofBuf, cast_eq]
  after_results_simp <;> rfl

/-- The ratio. -/
theorem rat_v35 : after opsRat V (Proc.devRef .tc main_v35)
    = (Host.divf (mulf (broadcastInDim S256x2 ![] bcast_S_S256x2 (constant S_ .f32 0x37800000#32)) (V (Proc.devRef .tc main_v32) : FVec F S256x2 .f32))
      (V (Proc.devRef .tc main_v31) : FVec F S256x2 .f32) : FVec F S256x2 .f32) := by
  simp only [opsRat]; after_results_simp <;> rfl

end Cert.RefRun

end
-- ==== Proof.SamplePay.lean ====
module
public import proofs.«01_k».proof.Proof.Gen.KernelIdeal.Frame
public import Idealize.ShloMosaic.Lib.Pointwise
@[expose] public section
set_option maxRecDepth 16384
noncomputable section
namespace Cert.Sampling
open Cert.KernelIdeal Cert.KernelIdeal.Gen Idealize.ShloMosaic Idealize.ShloMosaic.TcCoe Idealize.SL.Sem

/-! What the sampling kernel's stored values are, one entry at a time.

A row of a block is `X : Fin 2048 → EReal`, the cumulative weights of 2048 consecutive directions; `p` is the random
number drawn for the row; `old` is the choice stored so far. -/

/-- The least lane of the block whose cumulative weight exceeds `p`, or `131072` when no lane does. -/
def cand (p : EReal) (X : Fin 2048 → EReal) : BitVec 32 :=
  Finset.univ.fold IntOp.minsi 2147483647#32 (fun k : Fin 2048 => if p < X k then BitVec.ofNat 32 k.val else 131072#32)

/-- The flag of a first hit: nothing was chosen before, and this block has a lane above `p`. -/
def hit (p : EReal) (X : Fin 2048 → EReal) (old : BitVec 32) : BitVec 1 :=
  IntOp.andi (IntOp.cmpi .sge old 131072#32) (IntOp.cmpi .slt (cand p X) 131072#32)

/-- The choice after the block: the hit's position, `base` being the block's first direction, or the old choice. -/
def newChoice (base : BitVec 32) (p : EReal) (X : Fin 2048 → EReal) (old : BitVec 32) : BitVec 32 :=
  Scalar.select (hit p X old) (IntOp.addi base (cand p X)) old

/-- The value of `Y` captured at the hit lane, zero without a hit: a sum with one selected term. -/
def pick (p : EReal) (X Y : Fin 2048 → EReal) (old : BitVec 32) : EReal :=
  ∑ k : Fin 2048, Scalar.select (IntOp.andi (hit p X old) (IntOp.cmpi .eq (BitVec.ofNat 32 k.val) (cand p X))) (Y k) 0

/-- Row `r` of a block of 2048 directions. -/
def row (x : Vec Ideal S256x2048 .f32) (r : Fin 256) : Fin 2048 → EReal := fun k => x (ix2 r k)

/-- The lane numbers the kernel compares with. -/
abbrev lanes : IVec S256x2048 32 := iota .tc S256x2048 32 [1] iota_S256x2048_d1_w32

variable (v3 v5 v7 : Vec Ideal S256x2048 .f32) (v9 : Vec Ideal S256x2 .f32) (v20 : Vec Ideal S256x1 .i32)
variable (b : BitVec 32) (old : Vec Ideal S256x1 .i32) (acc : Vec Ideal S256x1 .f32) (r : Fin 256)

/-- The first sample's stored choice. -/
theorem choice0 : k1_pay16 b (k1_pay11 (F := Ideal) v3 v9) (k1_pay12 (F := Ideal) v3 v9 v20) old (ix2 r 0)
    = Scalar.select (hit (v9 (ix2 r 0)) (row v3 r) (v20 (ix2 r 0))) (IntOp.addi b (cand (v9 (ix2 r 0)) (row v3 r))) (old (ix2 r 0)) := by
  pointwise [k1_pay16, k1_pay11, k1_pay12, k1_pay7, k1_pay10, hit, cand, row]

/-- The first sample's stored weight. -/
theorem weight0 : k1_pay17 (k1_pay14 (F := Ideal) v3 v5 v9 v20) acc (ix2 r 0)
    = acc (ix2 r 0) + pick (v9 (ix2 r 0)) (row v3 r) (row v5 r) (v20 (ix2 r 0)) := by
  pointwise [k1_pay17, k1_pay14, k1_pay13, k1_pay11, k1_pay12, k1_pay7, k1_pay8, k1_pay10, pick, hit, cand, row]

/-- The first sample's stored modulation. -/
theorem mod0 : k1_pay18 (k1_pay15 (F := Ideal) v3 v7 v9 v20) acc (ix2 r 0)
    = acc (ix2 r 0) + pick (v9 (ix2 r 0)) (row v3 r) (row v7 r) (v20 (ix2 r 0)) := by
  pointwise [k1_pay18, k1_pay15, k1_pay13, k1_pay11, k1_pay12, k1_pay7, k1_pay9, k1_pay10, pick, hit, cand, row]

/-- The second sample's stored choice. -/
theorem choice1 : k1_pay1 b (k1_pay19 (F := Ideal) (k1_pay7 v3) (k1_pay10 v9) lanes) (k1_pay20 (F := Ideal) (k1_pay7 v3) (k1_pay10 v9) lanes v20) old (ix2 r 0)
    = Scalar.select (hit (v9 (ix2 r 1)) (row v3 r) (v20 (ix2 r 0))) (IntOp.addi b (cand (v9 (ix2 r 1)) (row v3 r))) (old (ix2 r 0)) := by
  pointwise [k1_pay1, k1_pay19, k1_pay20, k1_pay7, k1_pay10, hit, cand, row]

/-- The second sample's stored weight. -/
theorem weight1 : k1_pay2 (k1_pay22 (F := Ideal) (k1_pay7 v3) (k1_pay8 v5) (k1_pay10 v9) lanes v20) acc (ix2 r 0)
    = acc (ix2 r 0) + pick (v9 (ix2 r 1)) (row v3 r) (row v5 r) (v20 (ix2 r 0)) := by
  pointwise [k1_pay2, k1_pay22, k1_pay21, k1_pay19, k1_pay20, k1_pay7, k1_pay8, k1_pay10, pick, hit, cand, row]

/-- The second sample's stored modulation. -/
theorem mod1 : k1_pay3 (k1_pay9 (F := Ideal) v7) (k1_pay21 (F := Ideal) (k1_pay7 v3) (k1_pay10 v9) lanes v20) acc (ix2 r 0)
    = acc (ix2 r 0) + pick (v9 (ix2 r 1)) (row v3 r) (row v7 r) (v20 (ix2 r 0)) := by
  pointwise [k1_pay3, k1_pay21, k1_pay19, k1_pay20, k1_pay7, k1_pay9, k1_pay10, pick, hit, cand, row]

end Cert.Sampling
end
-- ==== Proof.Lane.lean ====
module

public import proofs.«01_k».proof.Proof.SamplePay
public import Idealize.ShloMosaic.Lib.WordCmp
public import Idealize.ShloMosaic.Lib.SortNet.Extract

/-!
# The first direction above a random number

What one block adds to the search for the first direction whose cumulative weight exceeds the random number: the state
after `n` directions is that of the first one among them, or the reset state when there is none.
-/

@[expose] public section

set_option maxRecDepth 16384

noncomputable section

namespace Cert.Sampling

open Idealize.ShloMosaic Idealize.ShloMosaic.WordCmp

/-- A true flag selects the first word. -/
theorem select_one {α : Type} (a b : α) : Scalar.select 1#1 a b = a := rfl
/-- A false flag selects the second. -/
theorem select_zero {α : Type} (a b : α) : Scalar.select 0#1 a b = b := rfl

/-- A set with a member has a least one. -/
theorem exists_first {n : ℕ} (P : Fin n → Prop) (h : ∃ k, P k) : ∃ k, P k ∧ ∀ j, j < k → ¬ P j := by
  obtain ⟨k, hk, hm⟩ := WellFounded.has_min (wellFounded_lt (α := Fin n)) {k | P k} h
  exact ⟨k, hk, fun j hj hp => hm j hp hj⟩

/-- The signed minimum over a set is at most the start and every word met, and is one of them. -/
theorem fold_least {ι : Type} [DecidableEq ι] (g : ι → BitVec 32) (s : Finset ι) (init : BitVec 32) :
    (s.fold IntOp.minsi init g).toInt ≤ init.toInt ∧ (∀ i ∈ s, (s.fold IntOp.minsi init g).toInt ≤ (g i).toInt) ∧
      (s.fold IntOp.minsi init g = init ∨ ∃ i ∈ s, s.fold IntOp.minsi init g = g i) := by
  induction s using Finset.induction_on with
  | empty => simp
  | insert a s has ih =>
    obtain ⟨h1, h2, h3⟩ := ih
    rw [Finset.fold_insert has]
    have hm := SortNet.toInt_minsi (g a) (s.fold IntOp.minsi init g)
    refine ⟨?_, fun i hi => ?_, ?_⟩
    · rw [hm]; exact le_trans (min_le_right _ _) h1
    · rw [hm]
      rcases Finset.mem_insert.mp hi with rfl | hi
      · exact min_le_left _ _
      · exact le_trans (min_le_right _ _) (h2 i hi)
    · rcases min_choice (g a).toInt (s.fold IntOp.minsi init g).toInt with h | h
      · exact Or.inr ⟨a, Finset.mem_insert_self a s, BitVec.eq_of_toInt_eq (hm.trans h)⟩
      · have e := BitVec.eq_of_toInt_eq (hm.trans h)
        rcases h3 with h3 | ⟨i, hi, h3⟩
        · exact Or.inl (e.trans h3)
        · exact Or.inr ⟨i, Finset.mem_insert_of_mem hi, e.trans h3⟩

/-- A small number as a signed word. -/
theorem small_toInt (k : ℕ) (h : k < 2147483648) : (BitVec.ofNat 32 k).toInt = (k : ℤ) :=
  toInt_ofNat_of_lt (by simpa using h)

variable (p : EReal) (X Y : Fin 2048 → EReal)

/-- A block with a lane above `p`: the candidate is the first such lane. -/
theorem cand_first (k : Fin 2048) (hk : p < X k) (hm : ∀ j, j < k → ¬ p < X j) : cand p X = BitVec.ofNat 32 k.val := by
  obtain ⟨-, h2, h3⟩ := fold_least (fun k : Fin 2048 => if p < X k then BitVec.ofNat 32 k.val else 131072#32) Finset.univ 2147483647#32
  have hF := h2 k (Finset.mem_univ k)
  simp only [if_pos hk] at hF
  rw [small_toInt _ (by omega)] at hF
  show Finset.univ.fold IntOp.minsi 2147483647#32 _ = _
  have c1 : (2147483647#32 : BitVec 32).toInt = 2147483647 := by decide
  have c2 : (131072#32 : BitVec 32).toInt = 131072 := by decide
  rcases h3 with h3 | ⟨i, -, h3⟩
  · rw [h3, c1] at hF; omega
  · by_cases hi : p < X i
    · simp only [if_pos hi] at h3
      rw [h3, small_toInt _ (by omega)] at hF
      rw [h3]
      have : ¬ i < k := fun h => hm i h hi
      have e : i = k := by
        apply Fin.ext
        have := Fin.not_lt.mp this
        have := Fin.le_def.mp this
        omega
      rw [e]
    · simp only [if_neg hi] at h3
      rw [h3, c2] at hF; omega

/-- A block with none: the candidate is the mark of no hit. -/
theorem cand_none (hn : ∀ j, ¬ p < X j) : cand p X = 131072#32 := by
  obtain ⟨-, h2, h3⟩ := fold_least (fun k : Fin 2048 => if p < X k then BitVec.ofNat 32 k.val else 131072#32) Finset.univ 2147483647#32
  have hF := h2 0 (Finset.mem_univ 0)
  simp only [if_neg (hn 0)] at hF
  show Finset.univ.fold IntOp.minsi 2147483647#32 _ = _
  have c1 : (2147483647#32 : BitVec 32).toInt = 2147483647 := by decide
  have c2 : (131072#32 : BitVec 32).toInt = 131072 := by decide
  rcases h3 with h3 | ⟨i, -, h3⟩
  · rw [h3, c1, c2] at hF; omega
  · simp only [if_neg (hn i)] at h3
    exact h3

/-- A choice already made is kept: no first hit. -/
theorem hit_old (k : ℕ) (h : k < 131072) : hit p X (BitVec.ofNat 32 k) = 0#1 := by
  have e : IntOp.cmpi .sge (BitVec.ofNat 32 k) 131072#32 = 0#1 := by
    rw [cmpi_sge_eq, small_toInt k (by omega)]
    have c2 : (131072#32 : BitVec 32).toInt = 131072 := by decide
    rw [c2, decide_eq_false (by omega)]; rfl
  unfold hit
  rw [e]
  exact BitVec.zero_and

/-- A block with no lane above `p`: no hit. -/
theorem hit_none (old : BitVec 32) (hn : ∀ j, ¬ p < X j) : hit p X old = 0#1 := by
  unfold hit
  rw [cand_none p X hn]
  exact BitVec.and_zero

/-- Nothing chosen before and a lane above `p`: a hit. -/
theorem hit_new (k : Fin 2048) (hk : p < X k) (hm : ∀ j, j < k → ¬ p < X j) : hit p X 131072#32 = 1#1 := by
  unfold hit
  rw [cand_first p X k hk hm, cmpi_slt_eq, small_toInt _ (by omega)]
  have c2 : (131072#32 : BitVec 32).toInt = 131072 := by decide
  rw [c2, decide_eq_true (by omega)]; rfl

/-- Without a hit nothing is captured. -/
theorem pick_zero (old : BitVec 32) (h : hit p X old = 0#1) : pick p X Y old = 0 := by
  unfold pick
  rw [h]
  refine Finset.sum_eq_zero fun k _ => ?_
  rw [show ∀ b : BitVec 1, IntOp.andi 0#1 b = 0#1 from fun b => BitVec.zero_and]
  rfl

/-- With a hit the value at the first lane is captured. -/
theorem pick_new (k : Fin 2048) (hk : p < X k) (hm : ∀ j, j < k → ¬ p < X j) : pick p X Y 131072#32 = Y k := by
  unfold pick
  rw [hit_new p X k hk hm, cand_first p X k hk hm]
  refine (Finset.sum_eq_single k (fun j _ hj => ?_) (fun h => absurd (Finset.mem_univ k) h)).trans ?_
  · rw [cmpi_eq_ofNat (by have := j.isLt; omega) (by have := k.isLt; omega), decide_eq_false (fun e => hj (Fin.ext e))]
    rfl
  · rw [cmpi_eq_ofNat (by have := k.isLt; omega) (by have := k.isLt; omega), decide_eq_true rfl]
    rfl

/-- The state of the search after the first `n` directions: at the first direction above `p`, or at the reset values. -/
def Found (p : EReal) (cs w md : Fin 131072 → EReal) (n : ℕ) (ch : BitVec 32) (q m : EReal) : Prop :=
  (∃ k : Fin 131072, k.val < n ∧ p < cs k ∧ (∀ j, j < k → ¬ p < cs j) ∧ ch = BitVec.ofNat 32 k.val ∧ q = w k ∧ m = md k)
  ∨ ((∀ k : Fin 131072, k.val < n → ¬ p < cs k) ∧ ch = 131072#32 ∧ q = 0 ∧ m = 0)

/-- ONE BLOCK: from the state after `T` blocks to the state after `T + 1`. -/
theorem found_step (cs w md : Fin 131072 → EReal) (T : ℕ) (hT : T < 64) (ch : BitVec 32) (q m : EReal)
    (h : Found p cs w md (T * 2048) ch q m) (W M : Fin 2048 → EReal)
    (hX : ∀ k : Fin 2048, X k = cs ⟨T * 2048 + k.val, by omega⟩) (hW : ∀ k : Fin 2048, W k = w ⟨T * 2048 + k.val, by omega⟩)
    (hM : ∀ k : Fin 2048, M k = md ⟨T * 2048 + k.val, by omega⟩) :
    Found p cs w md ((T + 1) * 2048) (newChoice (BitVec.ofNat 32 (T * 2048)) p X ch) (q + pick p X W ch) (m + pick p X M ch) := by
  rcases h with ⟨k, hkn, hk, hm, rfl, rfl, rfl⟩ | ⟨hn, rfl, rfl, rfl⟩
  · left
    have h0 := hit_old p X k.val k.isLt
    refine ⟨k, by omega, hk, hm, ?_, ?_, ?_⟩
    · unfold newChoice; rw [h0, select_zero]
    · rw [pick_zero p X W _ h0, add_zero]
    · rw [pick_zero p X M _ h0, add_zero]
  · by_cases hex : ∃ k, p < X k
    · obtain ⟨k, hk, hm⟩ := exists_first _ hex
      left
      refine ⟨⟨T * 2048 + k.val, by omega⟩, by show T * 2048 + k.val < _; omega, ?_, fun j hj => ?_, ?_, ?_, ?_⟩
      · rw [← hX]; exact hk
      · have hj' : j.val < T * 2048 + k.val := hj
        by_cases hl : j.val < T * 2048
        · exact hn j hl
        · have := hm ⟨j.val - T * 2048, by omega⟩ (Fin.lt_def.mpr (by show j.val - T * 2048 < k.val; omega))
          rw [hX] at this
          have e : (⟨T * 2048 + (j.val - T * 2048), by omega⟩ : Fin 131072) = j := Fin.ext (by show T * 2048 + (j.val - T * 2048) = j.val; omega)
          exact e ▸ this
      · unfold newChoice
        rw [hit_new p X k hk hm, select_one, cand_first p X k hk hm]
        exact (BitVec.ofNat_add _ _).symm
      · rw [pick_new p X W k hk hm, hW, zero_add]
      · rw [pick_new p X M k hk hm, hM, zero_add]
    · have hno : ∀ j, ¬ p < X j := fun j hj => hex ⟨j, hj⟩
      have h0 := hit_none p X 131072#32 hno
      right
      refine ⟨fun k hk => ?_, ?_, ?_, ?_⟩
      · by_cases hl : k.val < T * 2048
        · exact hn k hl
        · have := hno ⟨k.val - T * 2048, by omega⟩
          rw [hX] at this
          have e : (⟨T * 2048 + (k.val - T * 2048), by omega⟩ : Fin 131072) = k := Fin.ext (by show T * 2048 + (k.val - T * 2048) = k.val; omega)
          exact e ▸ this
      · unfold newChoice; rw [h0, select_zero]
      · rw [pick_zero p X W _ h0, add_zero]
      · rw [pick_zero p X M _ h0, add_zero]

/-- Before any block: the reset state. -/
theorem found_zero (cs w md : Fin 131072 → EReal) : Found p cs w md 0 131072#32 0 0 :=
  Or.inr ⟨fun _ h => absurd h (Nat.not_lt_zero _), rfl, rfl, rfl⟩

end Cert.Sampling

end
-- ==== Proof.Argmax.lean ====
module

public import proofs.«01_k».proof.Proof.RefHost
public import proofs.«01_k».proof.Proof.Lane
public import Idealize.ShloMosaic.Lib.Pointwise
public import Idealize.ShloMosaic.Lib.WordCmp

/-!
# The first place of the greatest

The reference's choice: along the last axis, the first place where the flag "the random number is below the cumulative
weight" is set, and place zero when it is set nowhere.
-/

@[expose] public section

set_option maxRecDepth 16384

noncomputable section

namespace Cert.Sampling

open Cert.ReferenceIdeal Cert.ReferenceIdeal.Gen Idealize.ShloMosaic Idealize.ShloMosaic.WordCmp

/-- A pair of a word and a place is no better than another: a smaller word, or the same word at a place no earlier. -/
def Below (x y : BitVec 32 × BitVec 32) : Prop := x.1.toInt < y.1.toInt ∨ (x.1 = y.1 ∧ y.2.toInt ≤ x.2.toInt)

/-- No pair is better than itself. -/
theorem below_refl (x : BitVec 32 × BitVec 32) : Below x x := Or.inr ⟨rfl, le_refl _⟩

/-- The comparison chains. -/
theorem below_trans {x y z : BitVec 32 × BitVec 32} (h : Below x y) (h' : Below y z) : Below x z := by
  rcases h with h | ⟨h, g⟩ <;> rcases h' with h' | ⟨h', g'⟩
  · exact Or.inl (lt_trans h h')
  · exact Or.inl (h' ▸ h)
  · exact Or.inl (h ▸ h')
  · exact Or.inr ⟨h.trans h', le_trans g' g⟩

/-- One step keeps one of its two pairs, the better. -/
theorem step_spec (a b : BitVec 32 × BitVec 32) :
    (reducer_argmax_i32_i32 a b = a ∨ reducer_argmax_i32_i32 a b = b) ∧ Below a (reducer_argmax_i32_i32 a b) ∧ Below b (reducer_argmax_i32_i32 a b) := by
  have hne : IntOp.cmpi .ne a.1 a.1 = 0#1 := by rw [cmpi_ne_eq, decide_eq_false (by simp)]; rfl
  rcases lt_trichotomy a.1.toInt b.1.toInt with h | h | h
  · have e : reducer_argmax_i32_i32 a b = b := by
      have h1 : IntOp.cmpi .sgt a.1 b.1 = 0#1 := by rw [cmpi_sgt_eq, decide_eq_false (by omega)]; rfl
      have h2 : IntOp.cmpi .eq a.1 b.1 = 0#1 := by
        rw [cmpi_eq_eq, decide_eq_false (fun e => by rw [e] at h; exact absurd h (lt_irrefl _))]; rfl
      show (Scalar.select (IntOp.ori (IntOp.cmpi .sgt a.1 b.1) (IntOp.cmpi .ne a.1 a.1)) a.1 b.1,
        Scalar.select (IntOp.ori (IntOp.ori (IntOp.cmpi .sgt a.1 b.1) (IntOp.cmpi .ne a.1 a.1)) (IntOp.andi (IntOp.cmpi .eq a.1 b.1) (IntOp.cmpi .slt a.2 b.2))) a.2 b.2) = b
      rw [h1, h2, hne, show IntOp.andi 0#1 (IntOp.cmpi .slt a.2 b.2) = 0#1 from BitVec.zero_and]
      rfl
    rw [e]
    exact ⟨Or.inr rfl, Or.inl h, below_refl b⟩
  · have hab : a.1 = b.1 := BitVec.eq_of_toInt_eq h
    have h1 : IntOp.cmpi .sgt a.1 b.1 = 0#1 := by rw [cmpi_sgt_eq, decide_eq_false (by omega)]; rfl
    have h2 : IntOp.cmpi .eq a.1 b.1 = 1#1 := by rw [cmpi_eq_eq, decide_eq_true hab]; rfl
    by_cases hs : a.2.toInt < b.2.toInt
    · have e : reducer_argmax_i32_i32 a b = a := by
        show (Scalar.select (IntOp.ori (IntOp.cmpi .sgt a.1 b.1) (IntOp.cmpi .ne a.1 a.1)) a.1 b.1,
          Scalar.select (IntOp.ori (IntOp.ori (IntOp.cmpi .sgt a.1 b.1) (IntOp.cmpi .ne a.1 a.1)) (IntOp.andi (IntOp.cmpi .eq a.1 b.1) (IntOp.cmpi .slt a.2 b.2))) a.2 b.2) = a
        rw [h1, h2, hne, cmpi_slt_eq, decide_eq_true hs]
        exact Prod.ext hab.symm rfl
      rw [e]
      exact ⟨Or.inl rfl, below_refl a, Or.inr ⟨hab.symm, le_of_lt hs⟩⟩
    · have e : reducer_argmax_i32_i32 a b = b := by
        show (Scalar.select (IntOp.ori (IntOp.cmpi .sgt a.1 b.1) (IntOp.cmpi .ne a.1 a.1)) a.1 b.1,
          Scalar.select (IntOp.ori (IntOp.ori (IntOp.cmpi .sgt a.1 b.1) (IntOp.cmpi .ne a.1 a.1)) (IntOp.andi (IntOp.cmpi .eq a.1 b.1) (IntOp.cmpi .slt a.2 b.2))) a.2 b.2) = b
        rw [h1, h2, hne, cmpi_slt_eq, decide_eq_false hs]
        rfl
      rw [e]
      exact ⟨Or.inr rfl, Or.inr ⟨hab, not_lt.mp hs⟩, below_refl b⟩
  · have e : reducer_argmax_i32_i32 a b = a := by
      have h1 : IntOp.cmpi .sgt a.1 b.1 = 1#1 := by rw [cmpi_sgt_eq, decide_eq_true h]; rfl
      have h2 : IntOp.cmpi .eq a.1 b.1 = 0#1 := by
        rw [cmpi_eq_eq, decide_eq_false (fun e => by rw [e] at h; exact absurd h (lt_irrefl _))]; rfl
      show (Scalar.select (IntOp.ori (IntOp.cmpi .sgt a.1 b.1) (IntOp.cmpi .ne a.1 a.1)) a.1 b.1,
        Scalar.select (IntOp.ori (IntOp.ori (IntOp.cmpi .sgt a.1 b.1) (IntOp.cmpi .ne a.1 a.1)) (IntOp.andi (IntOp.cmpi .eq a.1 b.1) (IntOp.cmpi .slt a.2 b.2))) a.2 b.2) = a
      rw [h1, h2, hne, show IntOp.andi 0#1 (IntOp.cmpi .slt a.2 b.2) = 0#1 from BitVec.zero_and]
      rfl
    rw [e]
    exact ⟨Or.inl rfl, below_refl a, Or.inl h⟩

/-- Folding the step over a list keeps one of the pairs met, the best. -/
theorem fold_spec {ι : Type} (g : ι → BitVec 32 × BitVec 32) : ∀ (l : List ι) (z : BitVec 32 × BitVec 32),
    (l.foldl (fun a i => reducer_argmax_i32_i32 a (g i)) z = z ∨ ∃ i ∈ l, l.foldl (fun a i => reducer_argmax_i32_i32 a (g i)) z = g i)
      ∧ Below z (l.foldl (fun a i => reducer_argmax_i32_i32 a (g i)) z)
      ∧ ∀ i ∈ l, Below (g i) (l.foldl (fun a i => reducer_argmax_i32_i32 a (g i)) z)
  | [], z => ⟨Or.inl rfl, below_refl z, fun i hi => absurd hi List.not_mem_nil⟩
  | a :: l, z => by
    obtain ⟨h1, h2, h3⟩ := fold_spec g l (reducer_argmax_i32_i32 z (g a))
    obtain ⟨s1, s2, s3⟩ := step_spec z (g a)
    rw [List.foldl_cons]
    refine ⟨?_, below_trans s2 h2, fun i hi => ?_⟩
    · rcases h1 with h1 | ⟨i, hi, h1⟩
      · rcases s1 with s1 | s1
        · exact Or.inl (h1.trans s1)
        · exact Or.inr ⟨a, List.mem_cons_self, h1.trans s1⟩
      · exact Or.inr ⟨i, List.mem_cons_of_mem _ hi, h1⟩
    · rcases List.mem_cons.mp hi with rfl | hi
      · exact below_trans s3 h2
      · exact h3 i hi

/-- An arg-max at a result entry keeps the initial pair or the pair of a place reduced over, the best. -/
theorem reduce2_spec {s t u : Shape} {axes : List (Fin s.rank)} (x y : s.Idx → BitVec 32) (ix iy : u.Idx → BitVec 32)
    (h : s.ReducesTo axes t) (hu : 0 < u.numel) (j : t.Idx) :
    (Host.reduce2 reducer_argmax_i32_i32 x y ix iy h hu j = (ix (Shape.Idx.first hu), iy (Shape.Idx.first hu))
        ∨ ∃ i, h.drop i = j ∧ Host.reduce2 reducer_argmax_i32_i32 x y ix iy h hu j = (x i, y i))
      ∧ ∀ i, h.drop i = j → Below (x i, y i) (Host.reduce2 reducer_argmax_i32_i32 x y ix iy h hu j) := by
  rw [Host.reduce2_eq_foldl_fiber]
  obtain ⟨h1, -, h3⟩ := fold_spec (fun q => q) (Host.argReduceFiber x y h j) (ix (Shape.Idx.first hu), iy (Shape.Idx.first hu))
  have mem : ∀ q, q ∈ Host.argReduceFiber x y h j ↔ ∃ i, h.drop i = j ∧ (x i, y i) = q := fun q => by
    unfold Host.argReduceFiber
    rw [List.mem_map]
    constructor
    · rintro ⟨n, hn, e⟩
      exact ⟨s.rowMajor.symm n, of_decide_eq_true (List.mem_filter.mp hn).2, e⟩
    · rintro ⟨i, hi, e⟩
      refine ⟨s.rowMajor i, List.mem_filter.mpr ⟨List.mem_finRange _, decide_eq_true ?_⟩, ?_⟩
      · rw [Equiv.symm_apply_apply]; exact hi
      · rw [Equiv.symm_apply_apply]; exact e
  refine ⟨?_, fun i hi => h3 _ ((mem _).mpr ⟨i, hi, rfl⟩)⟩
  rcases h1 with h1 | ⟨q, hq, h1⟩
  · exact Or.inl h1
  · obtain ⟨i, hi, e⟩ := (mem q).mp hq
    exact Or.inr ⟨i, hi, h1.trans e.symm⟩

/-- … and of a place reduced over, where the words are not negative and the initial word is the least of all. -/
theorem reduce2_best {s t u : Shape} {axes : List (Fin s.rank)} (x y : s.Idx → BitVec 32) (ix iy : u.Idx → BitVec 32)
    (h : s.ReducesTo axes t) (hu : 0 < u.numel) (j : t.Idx) (hx : ∀ i, 0 ≤ (x i).toInt) (hi : ∀ i, ix i = 2147483648#32)
    (i₀ : s.Idx) (h₀ : h.drop i₀ = j) (g : t.Idx → BitVec 32)
    (hg : g = fun j => (Host.reduce2 reducer_argmax_i32_i32 x y ix iy h hu j).2) :
    ∃ i, h.drop i = j ∧ g j = y i ∧ ∀ i', h.drop i' = j → Below (x i', y i') (x i, y i) := by
  have hgj := congrFun hg j
  obtain ⟨h1, h3⟩ := reduce2_spec x y ix iy h hu j
  rcases h1 with h1 | ⟨i, hi', h1⟩
  · exfalso
    have h2 := h3 i₀ h₀
    rw [h1, hi] at h2
    have hz := hx i₀
    have c : (2147483648#32 : BitVec 32).toInt = -2147483648 := by decide
    unfold Below at h2
    dsimp only at h2
    rcases h2 with h2 | ⟨h2, -⟩
    · rw [c] at h2; omega
    · rw [h2, c] at hz; omega
  · refine ⟨i, hi', by rw [hgj, h1], fun i' h' => ?_⟩
    have := h3 i' h'
    rwa [h1] at this

/-- The places that a result entry is reduced over. -/
theorem drop_iff (i : S256x2x131072.Idx) (r : Fin 256) (s : Fin 2) :
    reducesTo_S256x2x131072_S256x2_d2.drop i = ix2 r s ↔ i 0 = r ∧ i 1 = s := by
  have h0 : (reducesTo_S256x2x131072_S256x2_d2.drop i 0 : ℕ) = i 0 := Shape.ReducesTo.drop_apply_val _ i 0
  have h1 : (reducesTo_S256x2x131072_S256x2_d2.drop i 1 : ℕ) = i 1 := Shape.ReducesTo.drop_apply_val _ i 1
  constructor
  · intro e
    rw [e] at h0 h1
    exact ⟨Fin.ext h0.symm, Fin.ext h1.symm⟩
  · rintro ⟨rfl, rfl⟩
    exact Shape.idx_ext₂ h0 h1

/-- THE ARG-MAX over one row: the pair of some place, no other place's pair better. -/
theorem firstTop_spec (b : IVec S256x2x131072 32) (hb : ∀ i, 0 ≤ (b i).toInt) (r : Fin 256) (s : Fin 2) :
    ∃ k : Fin 131072, RefRun.firstTop b (ix2 r s) = BitVec.ofNat 32 k.val
      ∧ ∀ k' : Fin 131072, Below (b (ix3 r s k'), BitVec.ofNat 32 k'.val) (b (ix3 r s k), BitVec.ofNat 32 k.val) := by
  obtain ⟨i, hi, h1, h3⟩ := reduce2_best b (iotaInDim S256x2x131072 32 2) (constantI S_ 32 2147483648#32) (constantI S_ 32 0#32)
    reducesTo_S256x2x131072_S256x2_d2 h_S_ (ix2 r s) hb (fun _ => rfl) (ix3 r s (0 : Fin 131072)) ((drop_iff _ r s).mpr ⟨rfl, rfl⟩)
    (RefRun.firstTop b) rfl
  obtain ⟨k, rfl⟩ : ∃ k : Fin 131072, i = ix3 r s k := by
    obtain ⟨rfl, rfl⟩ := (drop_iff _ r s).mp hi
    exact ⟨i 2, eq_ix3 i⟩
  exact ⟨k, h1.trans (show iotaInDim S256x2x131072 32 2 (ix3 r s k) = BitVec.ofNat 32 k.val from rfl),
    fun k' => h3 (ix3 r s k') ((drop_iff _ r s).mpr ⟨rfl, rfl⟩)⟩

/-- The flag word at a place. -/
theorem below_at (p : FVec Ideal S256x2x1 .f32) (cs : FVec Ideal S256x131072 .f32) (r : Fin 256) (s : Fin 2) (k : Fin 131072) :
    RefRun.below p cs (ix3 r s k) = if p (ix3 r s (0 : Fin 1)) < cs (ix2 r k) then 1#32 else 0#32 := by
  pointwise [RefRun.below]
  by_cases h : p (ix3 r s (0 : Fin 1)) < cs (ix2 r k)
  · rw [if_pos h, decide_eq_true h]; rfl
  · rw [if_neg h, decide_eq_false h]; rfl

/-- No flag word is negative. -/
theorem below_nonneg (p : FVec Ideal S256x2x1 .f32) (cs : FVec Ideal S256x131072 .f32) (i : S256x2x131072.Idx) :
    0 ≤ (RefRun.below p cs i).toInt := by
  obtain ⟨r, s, k, rfl⟩ : ∃ (r : Fin 256) (s : Fin 2) (k : Fin 131072), i = ix3 r s k := ⟨i 0, i 1, i 2, eq_ix3 i⟩
  rw [below_at]
  split <;> decide

/-- THE REFERENCE'S CHOICE where some flag is set: the first place it is. -/
theorem firstTop_first (p : FVec Ideal S256x2x1 .f32) (cs : FVec Ideal S256x131072 .f32) (r : Fin 256) (s : Fin 2) (k : Fin 131072)
    (hk : p (ix3 r s (0 : Fin 1)) < cs (ix2 r k)) (hf : ∀ j, j < k → ¬ p (ix3 r s (0 : Fin 1)) < cs (ix2 r j)) :
    RefRun.firstTop (RefRun.below p cs) (ix2 r s) = BitVec.ofNat 32 k.val := by
  obtain ⟨q, e, hq⟩ := firstTop_spec (RefRun.below p cs) (below_nonneg p cs) r s
  have h := hq k
  have c0 : (0#32 : BitVec 32).toInt = 0 := by decide
  have c1 : (1#32 : BitVec 32).toInt = 1 := by decide
  have lk := k.isLt
  have lq := q.isLt
  unfold Below at h
  rw [below_at, below_at, if_pos hk] at h
  by_cases hqp : p (ix3 r s (0 : Fin 1)) < cs (ix2 r q)
  · rw [if_pos hqp] at h
    have hle : q.val ≤ k.val := by
      rcases h with h | ⟨-, h⟩
      · exact absurd h (lt_irrefl _)
      · have h' : (BitVec.ofNat 32 q.val).toInt ≤ (BitVec.ofNat 32 k.val).toInt := h
        rw [toInt_ofNat_of_lt (show q.val < 2 ^ (32 - 1) by omega), toInt_ofNat_of_lt (show k.val < 2 ^ (32 - 1) by omega)] at h'
        omega
    have hge : ¬ q < k := fun hlt => hf q hlt hqp
    have : q = k := Fin.ext (by have := Fin.not_lt.mp hge; have : k.val ≤ q.val := this; omega)
    rw [e, this]
  · rw [if_neg hqp] at h
    rcases h with h | ⟨h, -⟩
    · have h' : (1#32 : BitVec 32).toInt < (0#32 : BitVec 32).toInt := h
      rw [c0, c1] at h'; omega
    · exact absurd (show (1#32 : BitVec 32) = 0#32 from h) (by decide)

/-- THE REFERENCE'S CHOICE where no flag is set: place zero. -/
theorem firstTop_none (p : FVec Ideal S256x2x1 .f32) (cs : FVec Ideal S256x131072 .f32) (r : Fin 256) (s : Fin 2)
    (hn : ∀ j, ¬ p (ix3 r s (0 : Fin 1)) < cs (ix2 r j)) :
    RefRun.firstTop (RefRun.below p cs) (ix2 r s) = 0#32 := by
  obtain ⟨q, e, hq⟩ := firstTop_spec (RefRun.below p cs) (below_nonneg p cs) r s
  have h := hq 0
  have lq := q.isLt
  unfold Below at h
  rw [below_at, below_at, if_neg (hn 0), if_neg (hn q)] at h
  rcases h with h | ⟨-, h⟩
  · exact absurd h (lt_irrefl _)
  · have h' : (BitVec.ofNat 32 q.val).toInt ≤ (BitVec.ofNat 32 0).toInt := h
    rw [toInt_ofNat_of_lt (show q.val < 2 ^ (32 - 1) by omega), toInt_ofNat_of_lt (show 0 < 2 ^ (32 - 1) by omega)] at h'
    rw [e, show q.val = 0 by omega]

end Cert.Sampling

end
-- ==== Proof.Gather.lean ====
module

public import proofs.«01_k».proof.Proof.Values
public import proofs.«01_k».proof.Proof.RefHost
public import Idealize.ShloMosaic.Lib.Pointwise
public import Idealize.ShloMosaic.Lib.WordCmp

/-!
# The lookups at places in range

A lookup of rows by number, and a lookup along rows, at a place in range: the entry there.
-/

@[expose] public section

set_option maxRecDepth 16384

noncomputable section

namespace Cert.Sampling

open Cert.KernelIdeal Cert.KernelIdeal.Gen Idealize.ShloMosaic Idealize.ShloMosaic.TcCoe Idealize.SL.Sem Idealize.ShloMosaic.WordCmp

/-- A place read along a row: the gather's operand place. -/
theorem along_place (ix : IVec Cert.ReferenceIdeal.S256x2x1 32) (r : Fin 256) (s : Fin 2) (k : Fin 131072) (h : ix (ix3 r s (0 : Fin 1)) = BitVec.ofNat 32 k.val) :
    Cert.ReferenceIdeal.gather_S256x131072_S256x2x1_S256x2_n_1_0_0_1_2_11.operandIdx (ix2 r s) ix = (ix2 r k : S256x131072.Idx) := by
  have e : Cert.ReferenceIdeal.gather_S256x131072_S256x2x1_S256x2_n_1_0_0_1_2_11.siIdx (ix2 r s) ⟨0, by decide⟩ = (ix3 r s (0 : Fin 1) : Cert.ReferenceIdeal.S256x2x1.Idx) := by
    funext a
    fin_cases a <;> rfl
  refine Shape.idx_ext₂ ?_ ?_
  · show 0 + r.val + 0 = r.val
    omega
  · show min (ix (Cert.ReferenceIdeal.gather_S256x131072_S256x2x1_S256x2_n_1_0_0_1_2_11.siIdx (ix2 r s) ⟨0, by decide⟩)).toInt.toNat (131072 - 1) + 0 + 0 = k.val
    rw [e, h, toInt_ofNat_of_lt (by have := k.isLt; omega)]
    have := k.isLt
    rw [Int.toNat_natCast]
    omega

/-- A row read by number: the gather's operand place. -/
theorem take_place (ix : IVec S256x1 32) (r : Fin 256) (q : Fin 131072) :
    gather_S1x131072_S256x1_S256x131072_1_0_n_n_0_1_1131072.operandIdx (ix2 r q) ix = (ix2 (0 : Fin 1) q : S1x131072.Idx) := by
  refine Shape.idx_ext₂ ?_ ?_
  · exact Nat.lt_one_iff.mp (gather_S1x131072_S256x1_S256x131072_1_0_n_n_0_1_1131072.operandIdx (ix2 r q) ix 0).isLt
  · show 0 + 0 + q.val = q.val
    omega

/-- Folding a bit over one place. -/
theorem fold_one (b : BitVec 1) : Finset.fold IntOp.andi (1#1) (fun _ : Fin 1 => b) Finset.univ = b := by
  rw [Finset.univ_unique, Finset.fold_singleton]
  exact BitVec.and_allOnes (w := 1) (x := b)

/-- A number below `2 ^ 31` is not negative. -/
theorem slt_zero (k : ℕ) (h : k < 131072) : IntOp.cmpi .slt (BitVec.ofNat 32 k) 0#32 = 0#1 := by
  rw [cmpi_slt_eq, toInt_ofNat_of_lt (by omega)]
  have c : (0#32 : BitVec 32).toInt = 0 := by decide
  rw [c, decide_eq_false (by omega)]; rfl

/-- The place of a lookup along rows, in range: itself. -/
theorem alongIdx_at (ch : IVec S256x2 32) (r : Fin 256) (s : Fin 2) (k : Fin 131072) (h : ch (ix2 r s) = BitVec.ofNat 32 k.val) :
    Cert.RefRun.alongIdx ch (ix3 r s (0 : Fin 1)) = BitVec.ofNat 32 k.val := by
  have e : Cert.RefRun.alongIdx ch (ix3 r s (0 : Fin 1)) = Scalar.select (IntOp.cmpi .slt (ch (ix2 r s)) 0#32) (IntOp.addi (ch (ix2 r s)) 131072#32) (ch (ix2 r s)) := by
    pointwise [Cert.RefRun.alongIdx]
  rw [e, h, slt_zero k.val k.isLt]; rfl

/-- A place in range is marked so. -/
theorem alongOk_at (ch : IVec S256x2 32) (r : Fin 256) (s : Fin 2) (k : Fin 131072) (h : ch (ix2 r s) = BitVec.ofNat 32 k.val) :
    Cert.RefRun.alongOk ch (ix2 r s) = 1#1 := by
  pointwise [Cert.RefRun.alongOk, Cert.RefRun.alongIdx]
  rw [fold_one, h, slt_zero k.val k.isLt]
  show IntOp.andi (IntOp.cmpi .sge (BitVec.ofNat 32 k.val) 0#32) (IntOp.cmpi .sle (BitVec.ofNat 32 k.val) 131071#32) = 1#1
  have hk := k.isLt
  rw [cmpi_sge_eq, cmpi_sle_eq, toInt_ofNat_of_lt (show k.val < 2 ^ (32 - 1) by omega)]
  have c : (0#32 : BitVec 32).toInt = 0 := by decide
  have c' : (131071#32 : BitVec 32).toInt = 131071 := by decide
  rw [c, c', decide_eq_true (by omega), decide_eq_true (by omega)]; rfl

/-- THE LOOKUP ALONG ROWS at a place in range. -/
theorem along_at (x : FVec Ideal S256x131072 .f32) (ch : IVec S256x2 32) (r : Fin 256) (s : Fin 2) (k : Fin 131072)
    (h : ch (ix2 r s) = BitVec.ofNat 32 k.val) : Cert.RefRun.along (F := Ideal) x ch (ix2 r s) = x (ix2 r k) := by
  unfold Cert.RefRun.along
  show Scalar.select (Cert.RefRun.alongOk ch (ix2 r s)) _ _ = _
  rw [alongOk_at ch r s k h]
  exact congrArg x (along_place (Cert.RefRun.alongIdx ch) r s k (alongIdx_at ch r s k h))

/-- Row number zero is in range. -/
theorem takeOk_at (i : IVec S256 32) (r : Fin 256) (h : i (ix1 r) = 0#32) : takeOk i (ix1 r) = 1#1 := by
  pointwise [takeOk, takeIdx]
  rw [fold_one, h]; decide

/-- THE LOOKUP OF ROWS at row number zero: the one row. -/
theorem takeRows_at (x : FVec Ideal S1x131072 .f32) (i : IVec S256 32) (r : Fin 256) (q : Fin 131072) (h : i (ix1 r) = 0#32) :
    takeRows x i (ix2 r q) = x (ix2 (0 : Fin 1) q) := by
  have e : takeRows x i (ix2 r q) = Scalar.select (takeOk i (ix1 r))
      (Host.gather gather_S1x131072_S256x1_S256x131072_1_0_n_n_0_1_1131072 x (takeIdx i) (ix2 r q)) (Ideal.ofBits FTy.f32 2143289344#32) := by
    pointwise [takeRows]
  rw [e, takeOk_at i r h]
  exact congrArg x (take_place (takeIdx i) r q)

end Cert.Sampling

end
-- ==== Proof.Choice.lean ====
module

public import proofs.«01_k».proof.Proof.Argmax
public import proofs.«01_k».proof.Proof.Gather

/-!
# The two programs' choices

Where the search ends in the state `Found`, the kernel's choice is the reference's first place of the greatest, and what
it captured is what the reference looks up there.
-/

@[expose] public section

set_option maxRecDepth 16384

noncomputable section

namespace Cert.Sampling

open Cert.KernelIdeal Cert.KernelIdeal.Gen Idealize.ShloMosaic Idealize.ShloMosaic.WordCmp

/-- The choice at an entry. -/
theorem chosen_read (ch : IVec S256x2 32) (r : Fin 256) (s : Fin 2) :
    chosen ch (ix2 r s) = Scalar.select (IntOp.cmpi .sge (ch (ix2 r s)) 131072#32) 0#32 (ch (ix2 r s)) := by
  pointwise [chosen, noHit, id]

/-- What was captured at an entry. -/
theorem captured_read (ch : IVec S256x2 32) (w : FVec Ideal S256x131072 .f32) (q : FVec Ideal S256x2 .f32) (r : Fin 256) (s : Fin 2) :
    captured ch w q (ix2 r s) = Scalar.select (IntOp.cmpi .sge (ch (ix2 r s)) 131072#32) (w (ix2 r (0 : Fin 131072))) (q (ix2 r s)) := by
  pointwise [captured, noHit]

/-- A place in range is not past the end. -/
theorem sge_end (k : Fin 131072) : IntOp.cmpi .sge (BitVec.ofNat 32 k.val) 131072#32 = 0#1 := by
  have hk := k.isLt
  have c : (131072#32 : BitVec 32).toInt = 131072 := by decide
  rw [cmpi_sge_eq, toInt_ofNat_of_lt (show k.val < 2 ^ (32 - 1) by omega), c, decide_eq_false (by omega)]; rfl

/-- The end is. -/
theorem sge_self : IntOp.cmpi .sge (131072#32 : BitVec 32) 131072#32 = 1#1 := by decide

section
variable (p : FVec Ideal S256x2x1 .f32) (C W M : FVec Ideal S256x131072 .f32)
variable (ch : IVec S256x2 32) (q m : FVec Ideal S256x2 .f32)
variable (h : ∀ (r : Fin 256) (s : Fin 2), Found (p (ix3 r s (0 : Fin 1))) (fun k => C (ix2 r k)) (fun k => W (ix2 r k)) (fun k => M (ix2 r k))
  131072 (ch (ix2 r s)) (q (ix2 r s)) (m (ix2 r s)))
include h

/-- At an entry: one place in range that both programs choose, whose two values the kernel captured. -/
theorem choice_at (r : Fin 256) (s : Fin 2) : ∃ k : Fin 131072,
    chosen ch (ix2 r s) = BitVec.ofNat 32 k.val ∧ RefRun.firstTop (RefRun.below p C) (ix2 r s) = BitVec.ofNat 32 k.val
      ∧ captured ch W q (ix2 r s) = W (ix2 r k) ∧ captured ch M m (ix2 r s) = M (ix2 r k) := by
  rcases h r s with ⟨k, -, hk, hf, hc, hq, hm⟩ | ⟨hn, hc, -, -⟩
  · refine ⟨k, ?_, firstTop_first p C r s k hk hf, ?_, ?_⟩
    · rw [chosen_read, hc, sge_end, select_zero]
    · rw [captured_read, hc, sge_end, select_zero, hq]
    · rw [captured_read, hc, sge_end, select_zero, hm]
  · refine ⟨0, ?_, firstTop_none p C r s fun j => hn j j.isLt, ?_, ?_⟩
    · rw [chosen_read, hc, sge_self, select_one]; rfl
    · rw [captured_read, hc, sge_self, select_one]
    · rw [captured_read, hc, sge_self, select_one]

/-- THE CHOICES AGREE. -/
theorem chosen_eq : chosen ch = RefRun.firstTop (RefRun.below p C) := by
  refine funext fun (y : S256x2.Idx) => ?_
  obtain ⟨r, s, rfl⟩ : ∃ (r : Fin 256) (s : Fin 2), y = ix2 r s := ⟨y 0, y 1, eq_ix2 y⟩
  obtain ⟨k, h1, h2, -, -⟩ := choice_at p C W M ch q m h r s
  exact h1.trans h2.symm

/-- THE CAPTURED WEIGHTS are the weights looked up. -/
theorem captured_wts : captured ch W q = RefRun.along W (RefRun.firstTop (RefRun.below p C)) := by
  refine funext fun (y : S256x2.Idx) => ?_
  obtain ⟨r, s, rfl⟩ : ∃ (r : Fin 256) (s : Fin 2), y = ix2 r s := ⟨y 0, y 1, eq_ix2 y⟩
  obtain ⟨k, -, h2, h3, -⟩ := choice_at p C W M ch q m h r s
  exact h3.trans (along_at W _ r s k h2).symm

/-- THE CAPTURED MODULATIONS are the modulations looked up. -/
theorem captured_mod : captured ch M m = RefRun.along M (RefRun.firstTop (RefRun.below p C)) := by
  refine funext fun (y : S256x2.Idx) => ?_
  obtain ⟨r, s, rfl⟩ : ∃ (r : Fin 256) (s : Fin 2), y = ix2 r s := ⟨y 0, y 1, eq_ix2 y⟩
  obtain ⟨k, -, h2, -, h4⟩ := choice_at p C W M ch q m h r s
  exact h4.trans (along_at M _ r s k h2).symm
end

end Cert.Sampling

end
-- ==== Proof.KernelHost.lean ====
module

public import proofs.«01_k».proof.Proof.Gen.KernelIdeal.Frame
public import proofs.«01_k».proof.Proof.Values
public import Idealize.ShloMosaic.Lib.StableHlo.Run

/-!
# The kernel's host stretches, read back

What each stretch of host operations of the kernel's `@main` leaves in the buffers that a later one, a region or a
result reads, in the names of `Values`.
-/

@[expose] public section

set_option maxRecDepth 16384
set_option maxHeartbeats 1000000

noncomputable section

namespace Cert.Sampling

open Cert.KernelIdeal Cert.KernelIdeal.Gen Idealize.ShloMosaic Idealize.ShloMosaic.TcCoe Idealize.SL.Sem
open Idealize.ShloMosaic.StableHlo

variable {F : FTy → Type} [FloatOps F]
variable (V : Valuation τ sig (Elt F))

/-- The first stretch leaves the rotated normals. -/
theorem host0_v19 : after hostOps0 V (Proc.devRef .tc main_v19) = rotated (V (Proc.devRef .tc main_arg1)) := by
  simp only [hostOps0]; after_results_simp <;> rfl

/-- The first stretch leaves the environment's rows. -/
theorem host0_v21 : after hostOps0 V (Proc.devRef .tc main_v21) = envRows (V (Proc.devRef .tc main_arg3)) := by
  simp only [hostOps0]; after_results_simp <;> rfl

/-- The first stretch leaves the directions' rows. -/
theorem host0_v23 : after hostOps0 V (Proc.devRef .tc main_v23) = dirRows (V (Proc.devRef .tc main_arg4)) := by
  simp only [hostOps0]; after_results_simp <;> rfl

/-- The first stretch leaves the samples. -/
theorem host0_v24 : after hostOps0 V (Proc.devRef .tc main_v24) = samples (V (Proc.devRef .tc main_arg2)) := by
  simp only [hostOps0]; after_results_simp <;> rfl

/-- The stretch after the first region leaves the products. -/
theorem host1_v32 : after hostOps1 V (Proc.devRef .tc main_v32) = dots (V (Proc.devRef .tc main_arg4)) (V (Proc.devRef .tc main_v19)) := by
  simp only [hostOps1]; after_results_simp <;> rfl

/-- … and the lower bound of the clipping. -/
theorem host1_lo : after hostOps1 V (Proc.devRef .tc main_cst_3) = (zero : FVec F S_ .f32) := by
  simp only [hostOps1]; after_results_simp <;> rfl

/-- … and the upper bound of the clipping. -/
theorem host1_hi : after hostOps1 V (Proc.devRef .tc main_cst_4) = (constant S_ .f32 0x3F800000#32 : FVec F S_ .f32) := by
  simp only [hostOps1]; after_results_simp <;> rfl

/-- The clipping. -/
theorem host1_v33 : after hostOps1_1 V (Proc.devRef .tc main_v33)
    = clip (V (Proc.devRef .tc main_v32)) (V (Proc.devRef .tc main_cst_3)) (V (Proc.devRef .tc main_cst_4)) := by
  simp only [hostOps1_1, TRef.binary, TRef.nullary, TRef.reshape, TRef.ternary, TRef.unary, TRef.toBuf, TRef.ofBuf, cast_eq]
  after_results_simp <;> rfl

/-- The lengths. -/
theorem host1_v34 : after hostOps1_2 V (Proc.devRef .tc main_v34) = lengths (V (Proc.devRef .tc main_arg3)) := by
  simp only [hostOps1_2, TRef.binary, TRef.nullary, TRef.reshape, TRef.ternary, TRef.unary, TRef.toBuf, TRef.ofBuf, cast_eq]
  after_results_simp <;> rfl

/-- The lengths as one row. -/
theorem host1_v35 : after hostOps1_3 V (Proc.devRef .tc main_v35) = flat (V (Proc.devRef .tc main_v34)) := by
  simp only [hostOps1_3]; after_results_simp <;> rfl

/-- The lookup of rows. -/
theorem host1_v36 : after hostOps1_4 V (Proc.devRef .tc main_v36)
    = takeRows (V (Proc.devRef .tc main_v35)) (V (Proc.devRef .tc main_arg0)) := by
  simp only [hostOps1_4, TRef.binary, TRef.nullary, TRef.reshape, TRef.ternary, TRef.unary, TRef.toBuf, TRef.ofBuf, cast_eq]
  after_results_simp <;> rfl

/-- The rows divided by their sums. -/
theorem host1_v41 : after hostOps1_5 V (Proc.devRef .tc main_v41)
    = normalized (mulf (V (Proc.devRef .tc main_v36) : FVec F S256x131072 .f32) (V (Proc.devRef .tc main_v33) : FVec F S256x131072 .f32)) := by
  simp only [hostOps1_5]; after_results_simp <;> rfl

/-- The running sums. -/
theorem host1_v42 : after hostOps1_6 V (Proc.devRef .tc main_v42) = cumsum (V (Proc.devRef .tc main_v41)) := by
  simp only [hostOps1_6, TRef.binary, TRef.nullary, TRef.reshape, TRef.ternary, TRef.unary, TRef.toBuf, TRef.ofBuf, cast_eq]
  after_results_simp <;> rfl

/-- Where the sampling pass found no column. -/
theorem host2_v45 : after hostOps2 V (Proc.devRef .tc main_v45) = noHit (V (Proc.devRef .tc main_v43_0)) := by
  simp only [hostOps2]; after_results_simp <;> rfl

/-- The column taken then. -/
theorem host2_c7 : after hostOps2 V (Proc.devRef .tc main_c_7) = (constantI S_ 32 0#32 : IVec S_ 32) := by
  simp only [hostOps2]; after_results_simp <;> rfl

/-- The column chosen. -/
theorem host2_v46 : after hostOps2_1 V (Proc.devRef .tc main_v46)
    = (select (V (Proc.devRef .tc main_v45) : IVec S256x2 1) (broadcastInDim S256x2 ![] bcast_S_S256x2 (id (V (Proc.devRef .tc main_c_7) : IVec S_ 32)))
      (V (Proc.devRef .tc main_v43_0) : IVec S256x2 32) : IVec S256x2 32) := by
  simp only [hostOps2_1, TRef.binary, TRef.nullary, TRef.reshape, TRef.ternary, TRef.unary, TRef.toBuf, TRef.ofBuf, cast_eq]
  after_results_simp <;> rfl

/-- The weights' column 0. -/
theorem host2_v47 : after hostOps2_2 V (Proc.devRef .tc main_v47)
    = (extractStridedSlice S256x1 ![0, 0] (V (Proc.devRef .tc main_v41) : FVec F S256x131072 .f32) slices_S256x131072_S256x1_0_0 : FVec F S256x1 .f32) := by
  simp only [hostOps2_2]; after_results_simp <;> rfl

/-- The captured weight. -/
theorem host2_v48 : after hostOps2_3 V (Proc.devRef .tc main_v48)
    = (select (V (Proc.devRef .tc main_v45) : IVec S256x2 1) (broadcastInDim S256x2 ![0, 1] bcast_S256x1_S256x2_0_1 (V (Proc.devRef .tc main_v47) : FVec F S256x1 .f32))
      (V (Proc.devRef .tc main_v43_1) : FVec F S256x2 .f32) : FVec F S256x2 .f32) := by
  simp only [hostOps2_3, TRef.binary, TRef.nullary, TRef.reshape, TRef.ternary, TRef.unary, TRef.toBuf, TRef.ofBuf, cast_eq]
  after_results_simp <;> rfl

/-- The modulation's column 0. -/
theorem host2_v49 : after hostOps2_4 V (Proc.devRef .tc main_v49)
    = (extractStridedSlice S256x1 ![0, 0] (V (Proc.devRef .tc main_v25_1) : FVec F S256x131072 .f32) slices_S256x131072_S256x1_0_0 : FVec F S256x1 .f32) := by
  simp only [hostOps2_4]; after_results_simp <;> rfl

/-- The captured modulation. -/
theorem host2_v50 : after hostOps2_5 V (Proc.devRef .tc main_v50)
    = (select (V (Proc.devRef .tc main_v45) : IVec S256x2 1) (broadcastInDim S256x2 ![0, 1] bcast_S256x1_S256x2_0_1 (V (Proc.devRef .tc main_v49) : FVec F S256x1 .f32))
      (V (Proc.devRef .tc main_v43_2) : FVec F S256x2 .f32) : FVec F S256x2 .f32) := by
  simp only [hostOps2_5, TRef.binary, TRef.nullary, TRef.reshape, TRef.ternary, TRef.unary, TRef.toBuf, TRef.ofBuf, cast_eq]
  after_results_simp <;> rfl

/-- The ratio. -/
theorem host2_v55 : after hostOps2_6 V (Proc.devRef .tc main_v55) = ratio (V (Proc.devRef .tc main_v48)) (V (Proc.devRef .tc main_v50)) := by
  simp only [hostOps2_6]; after_results_simp <;> rfl

/-- The divisor of the quotient. -/
theorem host2_c10 : after hostOps2_6 V (Proc.devRef .tc main_c_10) = (constantI S_ 32 512#32 : IVec S_ 32) := by
  simp only [hostOps2_6]; after_results_simp <;> rfl

/-- The quotient. -/
theorem host2_v56 : after hostOps2_7 V (Proc.devRef .tc main_v56) = floorDiv (V (Proc.devRef .tc main_v46)) (V (Proc.devRef .tc main_c_10)) := by
  simp only [hostOps2_7, TRef.binary, TRef.nullary, TRef.reshape, TRef.ternary, TRef.unary, TRef.toBuf, TRef.ofBuf, cast_eq]
  after_results_simp <;> rfl

/-- The divisor of the remainder. -/
theorem host2_c11 : after hostOps2_8 V (Proc.devRef .tc main_c_11) = (constantI S_ 32 512#32 : IVec S_ 32) := by
  simp only [hostOps2_8]; after_results_simp <;> rfl

/-- The remainder. -/
theorem host2_v57 : after hostOps2_9 V (Proc.devRef .tc main_v57) = remainder (V (Proc.devRef .tc main_v46)) (V (Proc.devRef .tc main_c_11)) := by
  simp only [hostOps2_9, TRef.binary, TRef.nullary, TRef.reshape, TRef.ternary, TRef.unary, TRef.toBuf, TRef.ofBuf, cast_eq]
  after_results_simp <;> rfl

end Cert.Sampling

end
-- ==== Proof.KernelFold.lean ====
module

public import proofs.«01_k».proof.Proof.KernelHost

/-!
# The kernel's results, over what its two regions leave

The fold through the kernel's `@main`, read at the buffers the regions take and at the results: everything but the two
regions' own outputs in the names of `Values`.
-/

@[expose] public section

set_option maxRecDepth 16384
set_option maxHeartbeats 1000000

noncomputable section

namespace Cert.Sampling

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg) (c : Dev nD)

/-- The kernel's arguments on a device. -/
abbrev kIdx : IVec S256 32 := m ((c.tc : Thread nD τ).loc main_arg0)
/-- The normals. -/
abbrev kNrm : FVec F S256x3 .f32 := m ((c.tc : Thread nD τ).loc main_arg1)
/-- The samples. -/
abbrev kSmp : FVec F S256x2x1 .f32 := m ((c.tc : Thread nD τ).loc main_arg2)
/-- The environment. -/
abbrev kEnv : FVec F S1x256x512x3 .f32 := m ((c.tc : Thread nD τ).loc main_arg3)
/-- The directions. -/
abbrev kDir : FVec F S256x512x3 .f32 := m ((c.tc : Thread nD τ).loc main_arg4)
/-- The weight map of the kernel's host code. -/
abbrev kWts : FVec F S256x131072 .f32 := weights (kIdx m c) (kEnv m c) (modulation (kDir m c) (rotated (kNrm m c)))

/-- At the first region's entry: the normals, rotated. -/
theorem at1_v19 : W1 m ρ c (Proc.devRef .tc main_v19) = rotated (kNrm m c) := host0_v19 (W0 m ρ c)
/-- … the environment's rows. -/
theorem at1_v21 : W1 m ρ c (Proc.devRef .tc main_v21) = envRows (kEnv m c) := host0_v21 (W0 m ρ c)
/-- … the directions' rows. -/
theorem at1_v23 : W1 m ρ c (Proc.devRef .tc main_v23) = dirRows (kDir m c) := host0_v23 (W0 m ρ c)

/-- After the clipping: the modulation map. -/
theorem at4_v33 : W4 m ρ c (Proc.devRef .tc main_v33) = modulation (kDir m c) (rotated (kNrm m c)) := by
  have h19 : W2 m ρ c (Proc.devRef .tc main_v19) = rotated (kNrm m c) := (W2_of m ρ c main_v19 (by decide)).trans (at1_v19 m ρ c)
  have h32 : W3 m ρ c (Proc.devRef .tc main_v32) = dots (kDir m c) (rotated (kNrm m c)) := by
    rw [W3, host1_v32, h19, W2_args m ρ c main_arg4 (by decide)]
  rw [W4, host1_v33, h32, W3, host1_lo, host1_hi]; rfl

/-- After the division: the weight map. -/
theorem at8_v41 : W8 m ρ c (Proc.devRef .tc main_v41) = kWts m c := by
  have h34 : W5 m ρ c (Proc.devRef .tc main_v34) = lengths (kEnv m c) := by rw [W5, host1_v34, W4_args m ρ c main_arg3 (by decide)]
  have h35 : W6 m ρ c (Proc.devRef .tc main_v35) = flat (lengths (kEnv m c)) := by rw [W6, host1_v35, h34]
  have h36 : W7 m ρ c (Proc.devRef .tc main_v36) = takeRows (flat (lengths (kEnv m c))) (kIdx m c) := by
    rw [W7, host1_v36, h35, W6_args m ρ c main_arg0 (by decide)]
  have h33 : W7 m ρ c (Proc.devRef .tc main_v33) = modulation (kDir m c) (rotated (kNrm m c)) :=
    ((W7_of m ρ c main_v33 (by decide)).trans ((W6_of m ρ c main_v33 (by decide)).trans ((W5_of m ρ c main_v33 (by decide))))).trans (at4_v33 m ρ c)
  rw [W8, host1_v41, h36, h33]; rfl

/-- At the second region's entry: the weight map. -/
theorem at9_v41 : W9 m ρ c (Proc.devRef .tc main_v41) = kWts m c :=
  ((W9_of m ρ c main_v41 (by decide))).trans (at8_v41 m ρ c)
/-- … its running sums. -/
theorem at9_v42 : W9 m ρ c (Proc.devRef .tc main_v42) = cumsum (kWts m c) := by
  rw [W9, host1_v42, at8_v41]
/-- … the samples. -/
theorem at9_v24 : W9 m ρ c (Proc.devRef .tc main_v24) = samples (kSmp m c) :=
  ((W9_of m ρ c main_v24 (by decide)).trans ((W8_of m ρ c main_v24 (by decide)).trans ((W7_of m ρ c main_v24 (by decide)).trans ((W6_of m ρ c main_v24 (by decide)).trans ((W5_of m ρ c main_v24 (by decide)).trans ((W4_of m ρ c main_v24 (by decide)).trans ((W3_of m ρ c main_v24 (by decide)).trans ((W2_of m ρ c main_v24 (by decide)))))))))).trans (host0_v24 (W0 m ρ c))
/-- … the modulation the first region left. -/
theorem at9_v25_1 : W9 m ρ c (Proc.devRef .tc main_v25_1) = W2 m ρ c (Proc.devRef .tc main_v25_1) :=
  (W9_of m ρ c main_v25_1 (by decide)).trans ((W8_of m ρ c main_v25_1 (by decide)).trans ((W7_of m ρ c main_v25_1 (by decide)).trans ((W6_of m ρ c main_v25_1 (by decide)).trans ((W5_of m ρ c main_v25_1 (by decide)).trans ((W4_of m ρ c main_v25_1 (by decide)).trans ((W3_of m ρ c main_v25_1 (by decide))))))))

/-- Result 4: what the first region left in its intensity output. -/
theorem res_inten : W20 m ρ c (Proc.devRef .tc main_v25_0) = W2 m ρ c (Proc.devRef .tc main_v25_0) :=
  (W20_of m ρ c main_v25_0 (by decide)).trans ((W19_of m ρ c main_v25_0 (by decide)).trans ((W18_of m ρ c main_v25_0 (by decide)).trans ((W17_of m ρ c main_v25_0 (by decide)).trans ((W16_of m ρ c main_v25_0 (by decide)).trans ((W15_of m ρ c main_v25_0 (by decide)).trans ((W14_of m ρ c main_v25_0 (by decide)).trans ((W13_of m ρ c main_v25_0 (by decide)).trans ((W12_of m ρ c main_v25_0 (by decide)).trans ((W11_of m ρ c main_v25_0 (by decide)).trans ((W10_of m ρ c main_v25_0 (by decide)).trans ((W9_of m ρ c main_v25_0 (by decide)).trans ((W8_of m ρ c main_v25_0 (by decide)).trans ((W7_of m ρ c main_v25_0 (by decide)).trans ((W6_of m ρ c main_v25_0 (by decide)).trans ((W5_of m ρ c main_v25_0 (by decide)).trans ((W4_of m ρ c main_v25_0 (by decide)).trans ((W3_of m ρ c main_v25_0 (by decide)))))))))))))))))))
/-- Result 5: what the first region left in its modulation output. -/
theorem res_mod : W20 m ρ c (Proc.devRef .tc main_v25_1) = W2 m ρ c (Proc.devRef .tc main_v25_1) :=
  (W20_of m ρ c main_v25_1 (by decide)).trans ((W19_of m ρ c main_v25_1 (by decide)).trans ((W18_of m ρ c main_v25_1 (by decide)).trans ((W17_of m ρ c main_v25_1 (by decide)).trans ((W16_of m ρ c main_v25_1 (by decide)).trans ((W15_of m ρ c main_v25_1 (by decide)).trans ((W14_of m ρ c main_v25_1 (by decide)).trans ((W13_of m ρ c main_v25_1 (by decide)).trans ((W12_of m ρ c main_v25_1 (by decide)).trans ((W11_of m ρ c main_v25_1 (by decide)).trans ((W10_of m ρ c main_v25_1 (by decide)).trans ((W9_of m ρ c main_v25_1 (by decide)).trans ((W8_of m ρ c main_v25_1 (by decide)).trans ((W7_of m ρ c main_v25_1 (by decide)).trans ((W6_of m ρ c main_v25_1 (by decide)).trans ((W5_of m ρ c main_v25_1 (by decide)).trans ((W4_of m ρ c main_v25_1 (by decide)).trans ((W3_of m ρ c main_v25_1 (by decide)))))))))))))))))))
/-- Result 6: the weight map. -/
theorem res_wts : W20 m ρ c (Proc.devRef .tc main_v41) = kWts m c :=
  ((W20_of m ρ c main_v41 (by decide)).trans ((W19_of m ρ c main_v41 (by decide)).trans ((W18_of m ρ c main_v41 (by decide)).trans ((W17_of m ρ c main_v41 (by decide)).trans ((W16_of m ρ c main_v41 (by decide)).trans ((W15_of m ρ c main_v41 (by decide)).trans ((W14_of m ρ c main_v41 (by decide)).trans ((W13_of m ρ c main_v41 (by decide)).trans ((W12_of m ρ c main_v41 (by decide)).trans ((W11_of m ρ c main_v41 (by decide)).trans ((W10_of m ρ c main_v41 (by decide))))))))))))).trans (at9_v41 m ρ c)

/-- Where no column was found. -/
theorem at11_v45 : W11 m ρ c (Proc.devRef .tc main_v45) = noHit (W10 m ρ c (Proc.devRef .tc main_v43_0)) := host2_v45 (W10 m ρ c)

/-- The columns chosen. -/
theorem at12_v46 : W12 m ρ c (Proc.devRef .tc main_v46) = chosen (W10 m ρ c (Proc.devRef .tc main_v43_0)) := by
  have h43 : W11 m ρ c (Proc.devRef .tc main_v43_0) = W10 m ρ c (Proc.devRef .tc main_v43_0) := W11_of m ρ c main_v43_0 (by decide)
  rw [W12, host2_v46, at11_v45, h43, W11, host2_c7]; rfl

/-- The captured weights. -/
theorem at14_v48 : W14 m ρ c (Proc.devRef .tc main_v48)
    = captured (W10 m ρ c (Proc.devRef .tc main_v43_0)) (kWts m c) (W10 m ρ c (Proc.devRef .tc main_v43_1)) := by
  have h45 : W13 m ρ c (Proc.devRef .tc main_v45) = noHit (W10 m ρ c (Proc.devRef .tc main_v43_0)) :=
    ((W13_of m ρ c main_v45 (by decide)).trans ((W12_of m ρ c main_v45 (by decide)))).trans (at11_v45 m ρ c)
  have h41 : W12 m ρ c (Proc.devRef .tc main_v41) = kWts m c :=
    ((W12_of m ρ c main_v41 (by decide)).trans ((W11_of m ρ c main_v41 (by decide)).trans ((W10_of m ρ c main_v41 (by decide))))).trans (at9_v41 m ρ c)
  have h43 : W13 m ρ c (Proc.devRef .tc main_v43_1) = W10 m ρ c (Proc.devRef .tc main_v43_1) :=
    (W13_of m ρ c main_v43_1 (by decide)).trans ((W12_of m ρ c main_v43_1 (by decide)).trans ((W11_of m ρ c main_v43_1 (by decide))))
  rw [W14, host2_v48, h45, h43, W13, host2_v47, h41]; rfl

/-- The captured modulation. -/
theorem at16_v50 : W16 m ρ c (Proc.devRef .tc main_v50)
    = captured (W10 m ρ c (Proc.devRef .tc main_v43_0)) (W2 m ρ c (Proc.devRef .tc main_v25_1)) (W10 m ρ c (Proc.devRef .tc main_v43_2)) := by
  have h45 : W15 m ρ c (Proc.devRef .tc main_v45) = noHit (W10 m ρ c (Proc.devRef .tc main_v43_0)) :=
    ((W15_of m ρ c main_v45 (by decide)).trans ((W14_of m ρ c main_v45 (by decide)).trans ((W13_of m ρ c main_v45 (by decide)).trans ((W12_of m ρ c main_v45 (by decide)))))).trans (at11_v45 m ρ c)
  have h25 : W14 m ρ c (Proc.devRef .tc main_v25_1) = W2 m ρ c (Proc.devRef .tc main_v25_1) :=
    (W14_of m ρ c main_v25_1 (by decide)).trans ((W13_of m ρ c main_v25_1 (by decide)).trans ((W12_of m ρ c main_v25_1 (by decide)).trans ((W11_of m ρ c main_v25_1 (by decide)).trans ((W10_of m ρ c main_v25_1 (by decide)).trans ((W9_of m ρ c main_v25_1 (by decide)).trans ((W8_of m ρ c main_v25_1 (by decide)).trans ((W7_of m ρ c main_v25_1 (by decide)).trans ((W6_of m ρ c main_v25_1 (by decide)).trans ((W5_of m ρ c main_v25_1 (by decide)).trans ((W4_of m ρ c main_v25_1 (by decide)).trans ((W3_of m ρ c main_v25_1 (by decide)))))))))))))
  have h43 : W15 m ρ c (Proc.devRef .tc main_v43_2) = W10 m ρ c (Proc.devRef .tc main_v43_2) :=
    (W15_of m ρ c main_v43_2 (by decide)).trans ((W14_of m ρ c main_v43_2 (by decide)).trans ((W13_of m ρ c main_v43_2 (by decide)).trans ((W12_of m ρ c main_v43_2 (by decide)).trans ((W11_of m ρ c main_v43_2 (by decide))))))
  rw [W16, host2_v50, h45, h43, W15, host2_v49, h25]; rfl

/-- Result 3: the ratio. -/
theorem res_ratio : W20 m ρ c (Proc.devRef .tc main_v55)
    = ratio (captured (W10 m ρ c (Proc.devRef .tc main_v43_0)) (kWts m c) (W10 m ρ c (Proc.devRef .tc main_v43_1)))
        (captured (W10 m ρ c (Proc.devRef .tc main_v43_0)) (W2 m ρ c (Proc.devRef .tc main_v25_1)) (W10 m ρ c (Proc.devRef .tc main_v43_2))) := by
  have h48 : W16 m ρ c (Proc.devRef .tc main_v48) = _ :=
    ((W16_of m ρ c main_v48 (by decide)).trans ((W15_of m ρ c main_v48 (by decide)))).trans (at14_v48 m ρ c)
  refine ((W20_of m ρ c main_v55 (by decide)).trans ((W19_of m ρ c main_v55 (by decide)).trans ((W18_of m ρ c main_v55 (by decide))))).trans ?_
  rw [W17, host2_v55, h48, at16_v50]

/-- Result 1: the row of the column chosen. -/
theorem res_row : W20 m ρ c (Proc.devRef .tc main_v56)
    = floorDiv (chosen (W10 m ρ c (Proc.devRef .tc main_v43_0))) (constantI S_ 32 512#32) := by
  have h46 : W17 m ρ c (Proc.devRef .tc main_v46) = _ :=
    ((W17_of m ρ c main_v46 (by decide)).trans ((W16_of m ρ c main_v46 (by decide)).trans ((W15_of m ρ c main_v46 (by decide)).trans ((W14_of m ρ c main_v46 (by decide)).trans ((W13_of m ρ c main_v46 (by decide))))))).trans (at12_v46 m ρ c)
  refine ((W20_of m ρ c main_v56 (by decide)).trans ((W19_of m ρ c main_v56 (by decide)))).trans ?_
  rw [W18, host2_v56, h46, W17, host2_c10]

/-- Result 2: the place in its row of the column chosen. -/
theorem res_col : W20 m ρ c (Proc.devRef .tc main_v57)
    = remainder (chosen (W10 m ρ c (Proc.devRef .tc main_v43_0))) (constantI S_ 32 512#32) := by
  have h46 : W19 m ρ c (Proc.devRef .tc main_v46) = _ :=
    ((W19_of m ρ c main_v46 (by decide)).trans ((W18_of m ρ c main_v46 (by decide)).trans ((W17_of m ρ c main_v46 (by decide)).trans ((W16_of m ρ c main_v46 (by decide)).trans ((W15_of m ρ c main_v46 (by decide)).trans ((W14_of m ρ c main_v46 (by decide)).trans ((W13_of m ρ c main_v46 (by decide))))))))).trans (at12_v46 m ρ c)
  rw [W20, host2_v57, h46, W19, host2_c11]

end Cert.Sampling

end
-- ==== Proof.RefFold.lean ====
module

public import proofs.«01_k».proof.Proof.RefHost

/-!
# The reference's run, read through its stretches

The contents after each stretch, and from them the reference's six results as functions of its arguments.
-/

@[expose] public section

set_option maxRecDepth 16384
set_option maxHeartbeats 1000000

noncomputable section

namespace Cert.RefRun

open Cert.ReferenceIdeal Cert.ReferenceIdeal.Gen Idealize.ShloMosaic Idealize.ShloMosaic.TcCoe Idealize.SL.Sem
open Idealize.ShloMosaic.StableHlo

variable {F : FTy → Type} [FloatOps F]
variable (V : Valuation τ sig (Elt F))

/-- The contents after `opsRot`. -/
def U1 : Valuation τ sig (Elt F) := after opsRot V
/-- `opsRot` leaves what it does not write. -/
theorem U1_of (r : Ref sig .tc) (h : r ∉ opsRot_W) :
    U1 V (Proc.devRef .tc r) = V (Proc.devRef .tc r) := after_of_writes_sub opsRot V opsRot_writes h

/-- The contents after `opsLen`. -/
def U2 : Valuation τ sig (Elt F) := after opsLen (U1 V)
/-- `opsLen` leaves what it does not write. -/
theorem U2_of (r : Ref sig .tc) (h : r ∉ opsLen_W) :
    U2 V (Proc.devRef .tc r) = (U1 V) (Proc.devRef .tc r) := after_of_writes_sub opsLen (U1 V) opsLen_writes h

/-- The contents after `opsTake`. -/
def U3 : Valuation τ sig (Elt F) := after opsTake (U2 V)
/-- `opsTake` leaves what it does not write. -/
theorem U3_of (r : Ref sig .tc) (h : r ∉ opsTake_W) :
    U3 V (Proc.devRef .tc r) = (U2 V) (Proc.devRef .tc r) := after_of_writes_sub opsTake (U2 V) opsTake_writes h

/-- The contents after `opsDots`. -/
def U4 : Valuation τ sig (Elt F) := after opsDots (U3 V)
/-- `opsDots` leaves what it does not write. -/
theorem U4_of (r : Ref sig .tc) (h : r ∉ opsDots_W) :
    U4 V (Proc.devRef .tc r) = (U3 V) (Proc.devRef .tc r) := after_of_writes_sub opsDots (U3 V) opsDots_writes h

/-- The contents after `opsClip`. -/
def U5 : Valuation τ sig (Elt F) := after opsClip (U4 V)
/-- `opsClip` leaves what it does not write. -/
theorem U5_of (r : Ref sig .tc) (h : r ∉ opsClip_W) :
    U5 V (Proc.devRef .tc r) = (U4 V) (Proc.devRef .tc r) := after_of_writes_sub opsClip (U4 V) opsClip_writes h

/-- The contents after `opsNorm`. -/
def U6 : Valuation τ sig (Elt F) := after opsNorm (U5 V)
/-- `opsNorm` leaves what it does not write. -/
theorem U6_of (r : Ref sig .tc) (h : r ∉ opsNorm_W) :
    U6 V (Proc.devRef .tc r) = (U5 V) (Proc.devRef .tc r) := after_of_writes_sub opsNorm (U5 V) opsNorm_writes h

/-- The contents after `opsSums`. -/
def U7 : Valuation τ sig (Elt F) := after opsSums (U6 V)
/-- `opsSums` leaves what it does not write. -/
theorem U7_of (r : Ref sig .tc) (h : r ∉ opsSums_W) :
    U7 V (Proc.devRef .tc r) = (U6 V) (Proc.devRef .tc r) := after_of_writes_sub opsSums (U6 V) opsSums_writes h

/-- The contents after `opsBelow`. -/
def U8 : Valuation τ sig (Elt F) := after opsBelow (U7 V)
/-- `opsBelow` leaves what it does not write. -/
theorem U8_of (r : Ref sig .tc) (h : r ∉ opsBelow_W) :
    U8 V (Proc.devRef .tc r) = (U7 V) (Proc.devRef .tc r) := after_of_writes_sub opsBelow (U7 V) opsBelow_writes h

/-- The contents after `opsArg`. -/
def U9 : Valuation τ sig (Elt F) := after opsArg (U8 V)
/-- `opsArg` leaves what it does not write. -/
theorem U9_of (r : Ref sig .tc) (h : r ∉ opsArg_W) :
    U9 V (Proc.devRef .tc r) = (U8 V) (Proc.devRef .tc r) := after_of_writes_sub opsArg (U8 V) opsArg_writes h

/-- The contents after `opsRow`. -/
def U10 : Valuation τ sig (Elt F) := after opsRow (U9 V)
/-- `opsRow` leaves what it does not write. -/
theorem U10_of (r : Ref sig .tc) (h : r ∉ opsRow_W) :
    U10 V (Proc.devRef .tc r) = (U9 V) (Proc.devRef .tc r) := after_of_writes_sub opsRow (U9 V) opsRow_writes h

/-- The contents after `opsCol`. -/
def U11 : Valuation τ sig (Elt F) := after opsCol (U10 V)
/-- `opsCol` leaves what it does not write. -/
theorem U11_of (r : Ref sig .tc) (h : r ∉ opsCol_W) :
    U11 V (Proc.devRef .tc r) = (U10 V) (Proc.devRef .tc r) := after_of_writes_sub opsCol (U10 V) opsCol_writes h

/-- The contents after `opsGetW`. -/
def U12 : Valuation τ sig (Elt F) := after opsGetW (U11 V)
/-- `opsGetW` leaves what it does not write. -/
theorem U12_of (r : Ref sig .tc) (h : r ∉ opsGetW_W) :
    U12 V (Proc.devRef .tc r) = (U11 V) (Proc.devRef .tc r) := after_of_writes_sub opsGetW (U11 V) opsGetW_writes h

/-- The contents after `opsEps`. -/
def U13 : Valuation τ sig (Elt F) := after opsEps (U12 V)
/-- `opsEps` leaves what it does not write. -/
theorem U13_of (r : Ref sig .tc) (h : r ∉ opsEps_W) :
    U13 V (Proc.devRef .tc r) = (U12 V) (Proc.devRef .tc r) := after_of_writes_sub opsEps (U12 V) opsEps_writes h

/-- The contents after `opsGetM`. -/
def U14 : Valuation τ sig (Elt F) := after opsGetM (U13 V)
/-- `opsGetM` leaves what it does not write. -/
theorem U14_of (r : Ref sig .tc) (h : r ∉ opsGetM_W) :
    U14 V (Proc.devRef .tc r) = (U13 V) (Proc.devRef .tc r) := after_of_writes_sub opsGetM (U13 V) opsGetM_writes h

/-- The contents after `opsRat`. -/
def U15 : Valuation τ sig (Elt F) := after opsRat (U14 V)
/-- `opsRat` leaves what it does not write. -/
theorem U15_of (r : Ref sig .tc) (h : r ∉ opsRat_W) :
    U15 V (Proc.devRef .tc r) = (U14 V) (Proc.devRef .tc r) := after_of_writes_sub opsRat (U14 V) opsRat_writes h

/-- The run is the stretches in order. -/
theorem after_ops : after ops V = U15 V := by
  simp only [ops, after_append]; rfl

/-- Argument 0 ends as launched. -/
theorem arg0_eq : after ops V (Proc.devRef .tc main_arg0) = V (Proc.devRef .tc main_arg0) := by
  rw [after_ops]; exact ((U15_of V main_arg0 (by decide)).trans ((U14_of V main_arg0 (by decide)).trans ((U13_of V main_arg0 (by decide)).trans ((U12_of V main_arg0 (by decide)).trans ((U11_of V main_arg0 (by decide)).trans ((U10_of V main_arg0 (by decide)).trans ((U9_of V main_arg0 (by decide)).trans ((U8_of V main_arg0 (by decide)).trans ((U7_of V main_arg0 (by decide)).trans ((U6_of V main_arg0 (by decide)).trans ((U5_of V main_arg0 (by decide)).trans ((U4_of V main_arg0 (by decide)).trans ((U3_of V main_arg0 (by decide)).trans ((U2_of V main_arg0 (by decide)).trans (U1_of V main_arg0 (by decide))))))))))))))))

/-- Argument 1 ends as launched. -/
theorem arg1_eq : after ops V (Proc.devRef .tc main_arg1) = V (Proc.devRef .tc main_arg1) := by
  rw [after_ops]; exact ((U15_of V main_arg1 (by decide)).trans ((U14_of V main_arg1 (by decide)).trans ((U13_of V main_arg1 (by decide)).trans ((U12_of V main_arg1 (by decide)).trans ((U11_of V main_arg1 (by decide)).trans ((U10_of V main_arg1 (by decide)).trans ((U9_of V main_arg1 (by decide)).trans ((U8_of V main_arg1 (by decide)).trans ((U7_of V main_arg1 (by decide)).trans ((U6_of V main_arg1 (by decide)).trans ((U5_of V main_arg1 (by decide)).trans ((U4_of V main_arg1 (by decide)).trans ((U3_of V main_arg1 (by decide)).trans ((U2_of V main_arg1 (by decide)).trans (U1_of V main_arg1 (by decide))))))))))))))))

/-- Argument 2 ends as launched. -/
theorem arg2_eq : after ops V (Proc.devRef .tc main_arg2) = V (Proc.devRef .tc main_arg2) := by
  rw [after_ops]; exact ((U15_of V main_arg2 (by decide)).trans ((U14_of V main_arg2 (by decide)).trans ((U13_of V main_arg2 (by decide)).trans ((U12_of V main_arg2 (by decide)).trans ((U11_of V main_arg2 (by decide)).trans ((U10_of V main_arg2 (by decide)).trans ((U9_of V main_arg2 (by decide)).trans ((U8_of V main_arg2 (by decide)).trans ((U7_of V main_arg2 (by decide)).trans ((U6_of V main_arg2 (by decide)).trans ((U5_of V main_arg2 (by decide)).trans ((U4_of V main_arg2 (by decide)).trans ((U3_of V main_arg2 (by decide)).trans ((U2_of V main_arg2 (by decide)).trans (U1_of V main_arg2 (by decide))))))))))))))))

/-- Argument 3 ends as launched. -/
theorem arg3_eq : after ops V (Proc.devRef .tc main_arg3) = V (Proc.devRef .tc main_arg3) := by
  rw [after_ops]; exact ((U15_of V main_arg3 (by decide)).trans ((U14_of V main_arg3 (by decide)).trans ((U13_of V main_arg3 (by decide)).trans ((U12_of V main_arg3 (by decide)).trans ((U11_of V main_arg3 (by decide)).trans ((U10_of V main_arg3 (by decide)).trans ((U9_of V main_arg3 (by decide)).trans ((U8_of V main_arg3 (by decide)).trans ((U7_of V main_arg3 (by decide)).trans ((U6_of V main_arg3 (by decide)).trans ((U5_of V main_arg3 (by decide)).trans ((U4_of V main_arg3 (by decide)).trans ((U3_of V main_arg3 (by decide)).trans ((U2_of V main_arg3 (by decide)).trans (U1_of V main_arg3 (by decide))))))))))))))))

/-- Argument 4 ends as launched. -/
theorem arg4_eq : after ops V (Proc.devRef .tc main_arg4) = V (Proc.devRef .tc main_arg4) := by
  rw [after_ops]; exact ((U15_of V main_arg4 (by decide)).trans ((U14_of V main_arg4 (by decide)).trans ((U13_of V main_arg4 (by decide)).trans ((U12_of V main_arg4 (by decide)).trans ((U11_of V main_arg4 (by decide)).trans ((U10_of V main_arg4 (by decide)).trans ((U9_of V main_arg4 (by decide)).trans ((U8_of V main_arg4 (by decide)).trans ((U7_of V main_arg4 (by decide)).trans ((U6_of V main_arg4 (by decide)).trans ((U5_of V main_arg4 (by decide)).trans ((U4_of V main_arg4 (by decide)).trans ((U3_of V main_arg4 (by decide)).trans ((U2_of V main_arg4 (by decide)).trans (U1_of V main_arg4 (by decide))))))))))))))))

/-- The row numbers. -/
abbrev rIdx : IVec S256 32 := V (Proc.devRef .tc main_arg0)
/-- The normals. -/
abbrev rNrm : FVec F S256x3 .f32 := V (Proc.devRef .tc main_arg1)
/-- The samples. -/
abbrev rSmp : FVec F S256x2x1 .f32 := V (Proc.devRef .tc main_arg2)
/-- The environment. -/
abbrev rEnv : FVec F S1x256x512x3 .f32 := V (Proc.devRef .tc main_arg3)
/-- The directions. -/
abbrev rDir : FVec F S256x512x3 .f32 := V (Proc.devRef .tc main_arg4)
/-- The modulation map. -/
abbrev rMod : FVec F S256x131072 .f32 := Sampling.modulation (rDir V) (refRotated (rNrm V))
/-- The intensity map. -/
abbrev rInt : FVec F S256x131072 .f32 := Sampling.takeRows (Sampling.flat (Sampling.lengths (rEnv V))) (rIdx V)
/-- The weight map. -/
abbrev rWts : FVec F S256x131072 .f32 := Sampling.weights (rIdx V) (rEnv V) (rMod V)
/-- The places chosen. -/
abbrev rTop : IVec S256x2 32 := firstTop (below (rSmp V) (Sampling.cumsum (rWts V)))

/-- The lengths as one row. -/
theorem at2_v6 : U2 V (Proc.devRef .tc main_v6) = Sampling.flat (Sampling.lengths (rEnv V)) := by
  have ha3 : U1 V (Proc.devRef .tc main_arg3) = rEnv V := ((U1_of V main_arg3 (by decide))).trans (rfl)
  rw [U2, len_v6, ha3]

/-- The intensity map. -/
theorem at3_v7 : U3 V (Proc.devRef .tc main_v7) = rInt V := by
  have ha0 : U2 V (Proc.devRef .tc main_arg0) = rIdx V := (((U2_of V main_arg0 (by decide)).trans (U1_of V main_arg0 (by decide)))).trans (rfl)
  rw [U3, take_v7, ha0, at2_v6]

/-- The products. -/
theorem at4_v13 : U4 V (Proc.devRef .tc main_v13) = Sampling.dots (rDir V) (refRotated (rNrm V)) := by
  have ha4 : U3 V (Proc.devRef .tc main_arg4) = rDir V := (((U3_of V main_arg4 (by decide)).trans ((U2_of V main_arg4 (by decide)).trans (U1_of V main_arg4 (by decide))))).trans (rfl)
  rw [U4, dots_v13 (U3 V) (refRotated (rNrm V)) ((((U3_of V main_v4 (by decide)).trans (U2_of V main_v4 (by decide)))).trans (rot_v4 V)), ha4]

/-- The modulation map. -/
theorem at5_v14 : U5 V (Proc.devRef .tc main_v14) = rMod V := by
  rw [U5, clip_v14, at4_v13, U4, dots_lo, dots_hi]; rfl

/-- The weight map. -/
theorem at6_v19 : U6 V (Proc.devRef .tc main_v19) = rWts V := by
  have h7 : U5 V (Proc.devRef .tc main_v7) = rInt V := (((U5_of V main_v7 (by decide)).trans (U4_of V main_v7 (by decide)))).trans (at3_v7 V)
  rw [U6, norm_v19, h7, at5_v14]; rfl

/-- Its running sums. -/
theorem at7_v20 : U7 V (Proc.devRef .tc main_v20) = Sampling.cumsum (rWts V) := by
  rw [U7, sums_v20, at6_v19]

/-- The comparison. -/
theorem at8_v25 : U8 V (Proc.devRef .tc main_v25) = below (rSmp V) (Sampling.cumsum (rWts V)) := by
  have ha2 : U7 V (Proc.devRef .tc main_arg2) = rSmp V := (((U7_of V main_arg2 (by decide)).trans ((U6_of V main_arg2 (by decide)).trans ((U5_of V main_arg2 (by decide)).trans ((U4_of V main_arg2 (by decide)).trans ((U3_of V main_arg2 (by decide)).trans ((U2_of V main_arg2 (by decide)).trans (U1_of V main_arg2 (by decide))))))))).trans (rfl)
  rw [U8, below_v25, at7_v20, ha2]

/-- The places. -/
theorem at9_v26 : U9 V (Proc.devRef .tc main_v26) = rTop V := by
  rw [U9, arg_v26, at8_v25]

/-- The rows of the places. -/
theorem at10_v27 : U10 V (Proc.devRef .tc main_v27) = Sampling.floorDiv (rTop V) (constantI S_ 32 512#32) := by
  rw [U10, row_v27, at9_v26]

/-- The columns of the places. -/
theorem at11_v28 : U11 V (Proc.devRef .tc main_v28) = Sampling.remainder (rTop V) (constantI S_ 32 512#32) := by
  have h : U10 V (Proc.devRef .tc main_v26) = rTop V := ((U10_of V main_v26 (by decide))).trans (at9_v26 V)
  rw [U11, col_v28, h]

/-- The weight at the places. -/
theorem at12_v29 : U12 V (Proc.devRef .tc main_v29) = along (rWts V) (rTop V) := by
  have h : U11 V (Proc.devRef .tc main_v26) = rTop V := (((U11_of V main_v26 (by decide)).trans (U10_of V main_v26 (by decide)))).trans (at9_v26 V)
  have hw : U11 V (Proc.devRef .tc main_v19) = rWts V := (((U11_of V main_v19 (by decide)).trans ((U10_of V main_v19 (by decide)).trans ((U9_of V main_v19 (by decide)).trans ((U8_of V main_v19 (by decide)).trans (U7_of V main_v19 (by decide))))))).trans (at6_v19 V)
  rw [U12, getW_v29, h, hw]

/-- The modulation at the places. -/
theorem at14_v32 : U14 V (Proc.devRef .tc main_v32) = along (rMod V) (rTop V) := by
  have h : U13 V (Proc.devRef .tc main_v26) = rTop V := (((U13_of V main_v26 (by decide)).trans ((U12_of V main_v26 (by decide)).trans ((U11_of V main_v26 (by decide)).trans (U10_of V main_v26 (by decide)))))).trans (at9_v26 V)
  have hw : U13 V (Proc.devRef .tc main_v14) = rMod V := (((U13_of V main_v14 (by decide)).trans ((U12_of V main_v14 (by decide)).trans ((U11_of V main_v14 (by decide)).trans ((U10_of V main_v14 (by decide)).trans ((U9_of V main_v14 (by decide)).trans ((U8_of V main_v14 (by decide)).trans ((U7_of V main_v14 (by decide)).trans (U6_of V main_v14 (by decide)))))))))).trans (at5_v14 V)
  rw [U14, getM_v32, h, hw]

/-- The ratio. -/
theorem at15_v35 : U15 V (Proc.devRef .tc main_v35) = Sampling.ratio (along (rWts V) (rTop V)) (along (rMod V) (rTop V)) := by
  have h : U14 V (Proc.devRef .tc main_v31) = U13 V (Proc.devRef .tc main_v31) := (U14_of V main_v31 (by decide))
  rw [U15, rat_v35, at14_v32, h, U13, eps_v31, at12_v29]; rfl

/-- Result 1. -/
theorem res_v27 : after ops V (Proc.devRef .tc main_v27) = Sampling.floorDiv (rTop V) (constantI S_ 32 512#32) := by
  rw [after_ops]; exact (((U15_of V main_v27 (by decide)).trans ((U14_of V main_v27 (by decide)).trans ((U13_of V main_v27 (by decide)).trans ((U12_of V main_v27 (by decide)).trans (U11_of V main_v27 (by decide))))))).trans (at10_v27 V)

/-- Result 2. -/
theorem res_v28 : after ops V (Proc.devRef .tc main_v28) = Sampling.remainder (rTop V) (constantI S_ 32 512#32) := by
  rw [after_ops]; exact (((U15_of V main_v28 (by decide)).trans ((U14_of V main_v28 (by decide)).trans ((U13_of V main_v28 (by decide)).trans (U12_of V main_v28 (by decide)))))).trans (at11_v28 V)

/-- Result 3. -/
theorem res_v35 : after ops V (Proc.devRef .tc main_v35) = Sampling.ratio (along (rWts V) (rTop V)) (along (rMod V) (rTop V)) := by
  rw [after_ops]; exact at15_v35 V

/-- Result 4. -/
theorem res_v7 : after ops V (Proc.devRef .tc main_v7) = rInt V := by
  rw [after_ops]; exact (((U15_of V main_v7 (by decide)).trans ((U14_of V main_v7 (by decide)).trans ((U13_of V main_v7 (by decide)).trans ((U12_of V main_v7 (by decide)).trans ((U11_of V main_v7 (by decide)).trans ((U10_of V main_v7 (by decide)).trans ((U9_of V main_v7 (by decide)).trans ((U8_of V main_v7 (by decide)).trans ((U7_of V main_v7 (by decide)).trans ((U6_of V main_v7 (by decide)).trans ((U5_of V main_v7 (by decide)).trans (U4_of V main_v7 (by decide)))))))))))))).trans (at3_v7 V)

/-- Result 5. -/
theorem res_v14 : after ops V (Proc.devRef .tc main_v14) = rMod V := by
  rw [after_ops]; exact (((U15_of V main_v14 (by decide)).trans ((U14_of V main_v14 (by decide)).trans ((U13_of V main_v14 (by decide)).trans ((U12_of V main_v14 (by decide)).trans ((U11_of V main_v14 (by decide)).trans ((U10_of V main_v14 (by decide)).trans ((U9_of V main_v14 (by decide)).trans ((U8_of V main_v14 (by decide)).trans ((U7_of V main_v14 (by decide)).trans (U6_of V main_v14 (by decide)))))))))))).trans (at5_v14 V)

/-- Result 6. -/
theorem res_v19 : after ops V (Proc.devRef .tc main_v19) = rWts V := by
  rw [after_ops]; exact (((U15_of V main_v19 (by decide)).trans ((U14_of V main_v19 (by decide)).trans ((U13_of V main_v19 (by decide)).trans ((U12_of V main_v19 (by decide)).trans ((U11_of V main_v19 (by decide)).trans ((U10_of V main_v19 (by decide)).trans ((U9_of V main_v19 (by decide)).trans ((U8_of V main_v19 (by decide)).trans (U7_of V main_v19 (by decide))))))))))).trans (at6_v19 V)

end Cert.RefRun

end
-- ==== Proof.Rotation.lean ====
module

public import proofs.«01_k».proof.Proof.Values
public import proofs.«01_k».proof.Proof.RefHost
public import Idealize.ShloMosaic.Lib.Pointwise
public import Idealize.ShloMosaic.Lib.IdealHost

/-!
# The two rotations agree

The kernel's rotated normals (two sums of products, with the identity built from index comparisons) are the
reference's (two matrix products with a printed table).
-/

@[expose] public section

set_option maxRecDepth 16384

noncomputable section

namespace Cert.Sampling

open Cert.KernelIdeal Cert.KernelIdeal.Gen Idealize.ShloMosaic Idealize.ShloMosaic.TcCoe Idealize.SL.Sem

/-- The comparison of the two positions. -/
theorem eye_bit : ∀ a l : Fin 3, IntOp.cmpi .eq (IntOp.addi (BitVec.ofNat 32 a.val) 0#32) (BitVec.ofNat 32 l.val)
    = if a = l then 1#1 else 0#1 := by decide +kernel

/-- The table's words. -/
theorem table_word : ∀ a l : Fin 3, Cert.ReferenceIdeal.lit1 (S3x3.rowMajor (ix2 a l))
    = if a = l then 0x3F800000#32 else if a = 1 ∧ l = 0 then 0x80000000#32 else 0x00000000#32 := by decide +kernel

/-- The two rotation tables hold the same words. -/
theorem rot_word : ∀ i, lit0 i = Cert.ReferenceIdeal.lit0 i := by decide +kernel

/-- The word of one. -/
theorem word_one : Ideal.ofBits .f32 0x3F800000#32 = 1 := Idealize.ShloMosaic.Ideal.ofBits_one_f32
/-- The word of zero. -/
theorem word_zero : Ideal.ofBits .f32 0x00000000#32 = 0 := by simp [Ideal.ofBits, Ideal.ieee]
/-- The word of negative zero. -/
theorem word_neg_zero : Ideal.ofBits .f32 0x80000000#32 = 0 := by simp [Ideal.ofBits, Ideal.ieee]

/-- The identity the kernel builds is the reference's table, entry by entry. -/
theorem eye_at (a l : Fin 3) : eye (F := Ideal) (ix2 a l) = Ideal.ofBits .f32 (Cert.ReferenceIdeal.lit1 (S3x3.rowMajor (ix2 a l))) := by
  pointwise [eye]
  rw [eye_bit, table_word]
  by_cases h : a = l
  · rw [if_pos h, if_pos h, word_one]; show (((1#1 : BitVec 1).toNat : ℝ) : EReal) = 1; simp
  · rw [if_neg h, if_neg h]
    by_cases h' : a = 1 ∧ l = 0
    · rw [if_pos h', word_neg_zero]; show (((0#1 : BitVec 1).toNat : ℝ) : EReal) = 0; simp
    · rw [if_neg h', word_zero]; show (((0#1 : BitVec 1).toNat : ℝ) : EReal) = 0; simp

/-- The rotated normals agree. -/
theorem rotated_eq (n : FVec Ideal S256x3 .f32) : rotated (F := Ideal) n = RefRun.refRotated (F := Ideal) n := by
  funext j
  idx_vars j
  pointwise [rotated, prodWide, prodSq, rot, zero, RefRun.refRotated]
  refine Finset.sum_congr rfl fun k _ => congrArg (· * n (ix2 j0 k)) (Finset.sum_congr rfl fun l _ => ?_)
  rw [eye_at]
  exact congrArg₂ (· * ·) rfl (congrArg (Ideal.ofBits .f32) (rot_word _))

end Cert.Sampling

end
-- ==== Proof.MapsPay.lean ====
module

public import proofs.«01_k».proof.Proof.Gen.KernelIdeal.Skeleton
public import proofs.«01_k».proof.Proof.Values
public import Idealize.ShloMosaic.Lib.Pointwise

/-!
# The first region's values, entry by entry

The two payloads of the maps kernel at an entry, and the reference's modulation map at an entry, in one scalar form.
-/

@[expose] public section

set_option maxRecDepth 16384

noncomputable section

namespace Cert.Sampling

open Cert.KernelIdeal Cert.KernelIdeal.Gen Idealize.ShloMosaic Idealize.ShloMosaic.TcCoe Idealize.SL.Sem

/-- A clipped product of two triples. -/
def clipped (a0 a1 a2 b0 b1 b2 : EReal) : EReal := min 1 (max 0 (a0 * b0 + a1 * b1 + a2 * b2))

/-- The length of a triple. -/
def length (a0 a1 a2 : EReal) : EReal := Ideal.sqrt (a0 * a0 + a1 * a1 + a2 * a2)

/-- The maps kernel's modulation payload at an entry. -/
theorem pay_mod (d : FVec Ideal S3x2048 .f32) (rn : FVec Ideal S256x3 .f32) (r : Fin 256) (q : Fin 2048) :
    k0_pay1 (F := Ideal) d rn (ix2 r q)
      = clipped (rn (ix2 r 0)) (rn (ix2 r 1)) (rn (ix2 r 2)) (d (ix2 0 q)) (d (ix2 1 q)) (d (ix2 2 q)) := by
  pointwise [k0_pay1, clipped]

/-- The maps kernel's intensity payload at an entry. -/
theorem pay_int (e : FVec Ideal S3x2048 .f32) (r : Fin 256) (q : Fin 2048) :
    k0_pay2 (F := Ideal) e (ix2 r q) = length (e (ix2 0 q)) (e (ix2 1 q)) (e (ix2 2 q)) := by
  pointwise [k0_pay2, length]

/-- The modulation map at an entry. -/
theorem modulation_at (D : FVec Ideal S256x512x3 .f32) (rn : FVec Ideal S256x3 .f32) (r : Fin 256) (q : Fin 131072) :
    modulation (F := Ideal) D rn (ix2 r q)
      = clipped (rn (ix2 r 0)) (rn (ix2 r 1)) (rn (ix2 r 2)) (dirRows D (ix2 0 q)) (dirRows D (ix2 1 q)) (dirRows D (ix2 2 q)) := by
  pointwise [modulation, clip, dots, zero, dirRows, clipped, id]
  rw [Fin.sum_univ_three, mul_comm (rn (ix2 r 0)), mul_comm (rn (ix2 r 1)), mul_comm (rn (ix2 r 2))]

/-- The lengths' row at an entry. -/
theorem flat_at (e : FVec Ideal S1x256x512x3 .f32) (q : Fin 131072) :
    flat (lengths (F := Ideal) e) (ix2 0 q) = length (envRows e (ix2 0 q)) (envRows e (ix2 1 q)) (envRows e (ix2 2 q)) := by
  pointwise [flat, lengths, zero, envRows, length]
  rw [Fin.sum_univ_three]

end Cert.Sampling

end
-- ==== Proof.Maps.lean ====
module

public import proofs.«01_k».proof.Proof.Gen.KernelIdeal.Frame
public import proofs.«01_k».proof.Proof.MapsPay
public import Idealize.ShloMosaic.Lib.Pipeline.Value

/-!
# What the first region leaves

Each of its two result arrays ends holding one function of the region's three inputs: point `t` writes columns
`2048 t` to `2048 t + 2047` of both, and the 64 points cover the 131072 columns.
-/

@[expose] public section

set_option maxRecDepth 16384

noncomputable section

namespace Cert.Sampling

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- The intensity array: in every row, the length of each column of the environment's rows. -/
def intMap (e : FVec Ideal S3x131072 .f32) : FVec Ideal S256x131072 .f32 := fun i =>
  length (e (ix2 (0 : Fin 3) (i 1))) (e (ix2 (1 : Fin 3) (i 1))) (e (ix2 (2 : Fin 3) (i 1)))

/-- The modulation array: each normal against each direction, clipped. -/
def modMap (d : FVec Ideal S3x131072 .f32) (rn : FVec Ideal S256x3 .f32) : FVec Ideal S256x131072 .f32 := fun i =>
  clipped (rn (ix2 (i 0) (0 : Fin 3))) (rn (ix2 (i 0) (1 : Fin 3))) (rn (ix2 (i 0) (2 : Fin 3)))
    (d (ix2 (0 : Fin 3) (i 1))) (d (ix2 (1 : Fin 3) (i 1))) (d (ix2 (2 : Fin 3) (i 1)))

/-- Offset zero. -/
theorem off0 : (![0, 0] : Fin 2 → Nat) = fun _ => 0 := funext fun a => by fin_cases a <;> rfl

/-- The index maps at every point: the two row inputs and both results move along the columns, the normals stay. -/
theorem idx0 : ∀ t : Fin cfg0.N, (win0_0.index t 0 = 0 ∧ win0_0.index t 1 = t.val) ∧ (win0_1.index t 0 = 0 ∧ win0_1.index t 1 = t.val)
    ∧ (win0_2.index t 0 = 0 ∧ win0_2.index t 1 = 0) ∧ (win0_3.index t 0 = 0 ∧ win0_3.index t 1 = t.val)
    ∧ (win0_4.index t 0 = 0 ∧ win0_4.index t 1 = t.val) := by decide +kernel

/-- The column an entry of point `t`'s block stands at. -/
def colAt (t : Fin cfg0.N) (q : Fin 2048) : Fin 131072 := ⟨t.val * 2048 + q.val, by have := t.isLt; have h : cfg0.N = 64 := N_0; omega⟩

/-- The environment's block at a point, entry by entry. -/
theorem blk0_0 (t : Fin cfg0.N) (a : Fin 3) (q : Fin 2048) :
    (show FVec Ideal S3x2048 .f32 from iblk0 V c 0 t) (ix2 a q) = (show FVec Ideal S3x131072 .f32 from V c main_v21) (ix2 a (colAt t q)) := by
  obtain ⟨⟨h0, h1⟩, -⟩ := idx0 t
  refine congrArg (show FVec Ideal S3x131072 .f32 from V c main_v21) ?_
  refine Shape.idx_ext₂ ?_ ?_
  · refine (Pipeline.Window.rect_emb_val win0_0 t (ix2 a q) 0).trans ?_
    rw [h0]; simp
  · refine (Pipeline.Window.rect_emb_val win0_0 t (ix2 a q) 1).trans ?_
    rw [h1]; rfl

/-- The directions' block at a point, entry by entry. -/
theorem blk0_1 (t : Fin cfg0.N) (a : Fin 3) (q : Fin 2048) :
    (show FVec Ideal S3x2048 .f32 from iblk0 V c 1 t) (ix2 a q) = (show FVec Ideal S3x131072 .f32 from V c main_v23) (ix2 a (colAt t q)) := by
  obtain ⟨-, ⟨h0, h1⟩, -⟩ := idx0 t
  refine congrArg (show FVec Ideal S3x131072 .f32 from V c main_v23) ?_
  refine Shape.idx_ext₂ ?_ ?_
  · refine (Pipeline.Window.rect_emb_val win0_1 t (ix2 a q) 0).trans ?_
    rw [h0]; simp
  · refine (Pipeline.Window.rect_emb_val win0_1 t (ix2 a q) 1).trans ?_
    rw [h1]; rfl

/-- The normals' block at a point: the whole array. -/
theorem blk0_2 (t : Fin cfg0.N) (r : Fin 256) (a : Fin 3) :
    (show FVec Ideal S256x3 .f32 from iblk0 V c 2 t) (ix2 r a) = (show FVec Ideal S256x3 .f32 from V c main_v19) (ix2 r a) := by
  obtain ⟨-, -, ⟨h0, h1⟩, -⟩ := idx0 t
  refine congrArg (show FVec Ideal S256x3 .f32 from V c main_v19) ?_
  refine Shape.idx_ext₂ ?_ ?_
  · exact (Pipeline.Window.rect_emb_val_of_index_zero win0_2 t 0 h0 (ix2 r a))
  · exact (Pipeline.Window.rect_emb_val_of_index_zero win0_2 t 1 h1 (ix2 r a))

/-- Where an entry of a result's block stands. -/
theorem emb0_3 (t : Fin cfg0.N) (r : Fin 256) (q : Fin 2048) : (win0_3.rect t).emb (ix2 r q) = (ix2 r (colAt t q) : S256x131072.Idx) := by
  obtain ⟨-, -, -, ⟨h0, h1⟩, -⟩ := idx0 t
  refine Shape.idx_ext₂ ?_ ?_
  · exact (Pipeline.Window.rect_emb_val_of_index_zero win0_3 t 0 h0 (ix2 r q))
  · refine (Pipeline.Window.rect_emb_val win0_3 t (ix2 r q) 1).trans ?_
    rw [h1]; rfl

/-- Likewise for the other result. -/
theorem emb0_4 (t : Fin cfg0.N) (r : Fin 256) (q : Fin 2048) : (win0_4.rect t).emb (ix2 r q) = (ix2 r (colAt t q) : S256x131072.Idx) := by
  obtain ⟨-, -, -, -, ⟨h0, h1⟩⟩ := idx0 t
  refine Shape.idx_ext₂ ?_ ?_
  · exact (Pipeline.Window.rect_emb_val_of_index_zero win0_4 t 0 h0 (ix2 r q))
  · refine (Pipeline.Window.rect_emb_val win0_4 t (ix2 r q) 1).trans ?_
    rw [h1]; rfl

/-- What a point writes back of the intensities is its block of the intensity array. -/
theorem flushed0_3 (t : Fin cfg0.N) : (dat0 V c).flushed 3 t
    = (win0_3.blk t).view.read (Elt Ideal) (intMap (show FVec Ideal S3x131072 .f32 from V c main_v21)) := by
  show (cfg0.win 3).cut (grid0.coords t) ((dat0 V c).after 3 t) = _
  rw [after0_3]
  unfold out0_3
  rw [View.canon_unit_zero off0, View.ld_unit_zero off0]
  refine funext fun (y : S256x2048.Idx) => ?_
  obtain ⟨r, q, rfl⟩ : ∃ (r : Fin 256) (q : Fin 2048), y = ix2 r q := ⟨y 0, y 1, eq_ix2 y⟩
  refine (pay_int (show FVec Ideal S3x2048 .f32 from iblk0 V c 0 t) r q).trans ?_
  refine Eq.trans ?_ (congrArg (intMap (show FVec Ideal S3x131072 .f32 from V c main_v21)) (emb0_3 t r q).symm)
  rw [blk0_0, blk0_0, blk0_0]; rfl

/-- What a point writes back of the modulations is its block of the modulation array. -/
theorem flushed0_4 (t : Fin cfg0.N) : (dat0 V c).flushed 4 t
    = (win0_4.blk t).view.read (Elt Ideal) (modMap (show FVec Ideal S3x131072 .f32 from V c main_v23) (show FVec Ideal S256x3 .f32 from V c main_v19)) := by
  show (cfg0.win 4).cut (grid0.coords t) ((dat0 V c).after 4 t) = _
  rw [after0_4]
  unfold out0_4
  rw [View.canon_unit_zero off0, View.ld_unit_zero off0, View.ld_unit_zero off0]
  refine funext fun (y : S256x2048.Idx) => ?_
  obtain ⟨r, q, rfl⟩ : ∃ (r : Fin 256) (q : Fin 2048), y = ix2 r q := ⟨y 0, y 1, eq_ix2 y⟩
  refine (pay_mod (show FVec Ideal S3x2048 .f32 from iblk0 V c 1 t) (show FVec Ideal S256x3 .f32 from iblk0 V c 2 t) r q).trans ?_
  refine Eq.trans ?_ (congrArg (modMap (show FVec Ideal S3x131072 .f32 from V c main_v23) (show FVec Ideal S256x3 .f32 from V c main_v19)) (emb0_4 t r q).symm)
  rw [blk0_1, blk0_1, blk0_1, blk0_2, blk0_2, blk0_2]; rfl

/-- The point whose block holds a column. -/
def pointOf (q : Fin 131072) : Fin cfg0.N := ⟨q.val / 2048, by have := q.isLt; have h' : cfg0.N = 64 := N_0; omega⟩
/-- A column's place in its block. -/
def laneOf (q : Fin 131072) : Fin 2048 := ⟨q.val % 2048, Nat.mod_lt _ (by decide)⟩
/-- A column is its block's column at its place. -/
theorem colAt_pointOf (q : Fin 131072) : colAt (pointOf q) (laneOf q) = q :=
  Fin.ext (show q.val / 2048 * 2048 + q.val % 2048 = q.val by omega)

/-- Every entry of the intensities is in a block written back. -/
theorem cover0_int (i : S256x131072.Idx) : ∃ t : Fin cfg0.N, (cfg0.win 3).flush t = true ∧ i ∈ ((cfg0.win 3).blk t).view.set := by
  obtain ⟨r, q, rfl⟩ : ∃ (r : Fin 256) (q : Fin 131072), i = ix2 r q := ⟨i 0, i 1, eq_ix2 i⟩
  refine ⟨pointOf q, flush0_3 _, ?_⟩
  have e : ((cfg0.win 3).blk (pointOf q)).view.emb (ix2 r (laneOf q)) = (ix2 r q : S256x131072.Idx) :=
    (emb0_3 (pointOf q) r (laneOf q)).trans (congrArg (fun k => (ix2 r k : S256x131072.Idx)) (colAt_pointOf q))
  have h := ((cfg0.win 3).blk (pointOf q)).view.emb_mem_set (ix2 r (laneOf q))
  exact Eq.subst (motive := fun k : S256x131072.Idx => k ∈ ((cfg0.win 3).blk (pointOf q)).view.set) e h

/-- Every entry of the modulations is in a block written back. -/
theorem cover0_mod (i : S256x131072.Idx) : ∃ t : Fin cfg0.N, (cfg0.win 4).flush t = true ∧ i ∈ ((cfg0.win 4).blk t).view.set := by
  obtain ⟨r, q, rfl⟩ : ∃ (r : Fin 256) (q : Fin 131072), i = ix2 r q := ⟨i 0, i 1, eq_ix2 i⟩
  refine ⟨pointOf q, flush0_4 _, ?_⟩
  have e : ((cfg0.win 4).blk (pointOf q)).view.emb (ix2 r (laneOf q)) = (ix2 r q : S256x131072.Idx) :=
    (emb0_4 (pointOf q) r (laneOf q)).trans (congrArg (fun k => (ix2 r k : S256x131072.Idx)) (colAt_pointOf q))
  have h := ((cfg0.win 4).blk (pointOf q)).view.emb_mem_set (ix2 r (laneOf q))
  exact Eq.subst (motive := fun k : S256x131072.Idx => k ∈ ((cfg0.win 4).blk (pointOf q)).view.set) e h

/-- The intensities end as the intensity array. -/
theorem final0_int : (dat0 V c).arrAt 3 cfg0.N = intMap (show FVec Ideal S3x131072 .f32 from V c main_v21) :=
  (dat0 V c).arrAt_eq_of_cover 3 _ (fun t _ => flushed0_3 V c t) cover0_int

/-- The modulations end as the modulation array. -/
theorem final0_mod : (dat0 V c).arrAt 4 cfg0.N
    = modMap (show FVec Ideal S3x131072 .f32 from V c main_v23) (show FVec Ideal S256x3 .f32 from V c main_v19) :=
  (dat0 V c).arrAt_eq_of_cover 4 _ (fun t _ => flushed0_4 V c t) cover0_mod

end Cert.Sampling

end
-- ==== Proof.SampleStep.lean ====
module

public import proofs.«01_k».proof.Proof.Gen.KernelIdeal.Frame
public import proofs.«01_k».proof.Proof.SamplePay
public import Idealize.ShloMosaic.Lib.Pipeline.ValueKit
public import Idealize.ShloMosaic.Lib.Pipeline.ReadBack

/-!
# One point of the sampling region

What the three running arrays (choice, captured weight, captured modulation) hold after a point, entry by entry: at the
first point over the reset values, at the others over what the point before left.
-/

@[expose] public section

set_option maxRecDepth 16384

noncomputable section

namespace Cert.Sampling

open Cert.KernelIdeal Cert.KernelIdeal.Gen Idealize.ShloMosaic Idealize.ShloMosaic.TcCoe Idealize.SL.Sem

section Columns

variable {Val : EltTy → Type} {e : EltTy} [∀ e, Nonempty (Val e)]

/-- The left column as a rectangle. -/
abbrev rectL : Rect S256x2 := Rect.unit ![0, 0] ![256, 1] inb_S256x2_S256x1_0_0
/-- The right column as a rectangle. -/
abbrev rectR : Rect S256x2 := Rect.unit ![0, 1] ![256, 1] inb_S256x2_S256x1_0_1

/-- An entry of the left column stands in column 0. -/
theorem embL (r : Fin 256) : rectL.emb (ix2 r (0 : Fin 1) : S256x1.Idx) = (ix2 r (0 : Fin 2) : S256x2.Idx) := by
  refine Shape.idx_ext₂ ?_ ?_
  · show 0 + 1 * r.val = r.val
    omega
  · rfl

/-- An entry of the right column stands in column 1. -/
theorem embR (r : Fin 256) : rectR.emb (ix2 r (0 : Fin 1) : S256x1.Idx) = (ix2 r (1 : Fin 2) : S256x2.Idx) := by
  refine Shape.idx_ext₂ ?_ ?_
  · show 0 + 1 * r.val = r.val
    omega
  · rfl

/-- Loading the left column. -/
theorem ldL (X : S256x2.Idx → Val e) (r : Fin 256) : View.ld X rectL (ix2 r (0 : Fin 1) : S256x1.Idx) = X (ix2 r (0 : Fin 2)) :=
  congrArg X (embL r)

/-- Loading the right column. -/
theorem ldR (X : S256x2.Idx → Val e) (r : Fin 256) : View.ld X rectR (ix2 r (0 : Fin 1) : S256x1.Idx) = X (ix2 r (1 : Fin 2)) :=
  congrArg X (embR r)

/-- After a store to the right column, that column holds it. -/
theorem canonR (w : S256x1.Idx → Val e) (L : List (View.Piece Val S256x2 e)) (r : Fin 256) :
    View.canon (⟨rectR, w⟩ :: L) (ix2 r (1 : Fin 2)) = w (ix2 r (0 : Fin 1)) := by
  have h := View.canon_cons_emb rectR w L (ix2 r (0 : Fin 1) : S256x1.Idx)
  rw [embR] at h
  exact h

/-- After a store to the left column and then one to the right, the left column holds the first. -/
theorem canonL (w v : S256x1.Idx → Val e) (L : List (View.Piece Val S256x2 e)) (r : Fin 256) :
    View.canon (⟨rectR, w⟩ :: ⟨rectL, v⟩ :: L) (ix2 r (0 : Fin 2)) = v (ix2 r (0 : Fin 1)) := by
  have hn : (ix2 r (0 : Fin 2) : S256x2.Idx) ∉ rectR.set := fun hm => by
    have := (Rect.mem_set_unit.mp hm 1).1
    exact absurd this (by show ¬ (1 ≤ 0); omega)
  rw [View.canon_cons_of_not_mem ⟨rectR, w⟩ _ hn]
  have h := View.canon_cons_emb rectL v L (ix2 r (0 : Fin 1) : S256x1.Idx)
  rw [embL] at h
  exact h

end Columns

variable (V : (c : Dev nD) → (b : Ref sig .tc) → Buf (Elt Ideal) ((c : Thread nD τ).loc b)) (c : Dev nD)

/-- The number of the first direction of a point's block. -/
def base (t : Fin cfg1.N) : BitVec 32 := Scalar.muli (BitVec.ofNat 32 ↑(grid1.coords t 0)) 2048#32

/-- The point's cumulative weights. -/
abbrev blkX (t : Fin cfg1.N) : Vec Ideal S256x2048 .f32 := iblk1 V c 0 t
/-- The point's weights. -/
abbrev blkW (t : Fin cfg1.N) : Vec Ideal S256x2048 .f32 := iblk1 V c 1 t
/-- The point's modulations. -/
abbrev blkM (t : Fin cfg1.N) : Vec Ideal S256x2048 .f32 := iblk1 V c 2 t
/-- The random numbers. -/
abbrev blkP (t : Fin cfg1.N) : Vec Ideal S256x2 .f32 := iblk1 V c 3 t

/-- What the point before left. -/
abbrev prev1 (t : Fin cfg1.N) : Vec Ideal S256x2 .i32 × Vec Ideal S256x2 .f32 × Vec Ideal S256x2 .f32 :=
  outsAt1 V c (t.val - 1) (Nat.lt_of_le_of_lt (Nat.sub_le _ _) t.isLt)

/-- The weights start at zero. -/
theorem reset2 (j : S256x2.Idx) : k1_pay5 (F := Ideal) j = 0 := by pointwise [k1_pay5]

/-- The modulations start at zero. -/
theorem reset3 (j : S256x2.Idx) : k1_pay6 (F := Ideal) j = 0 := by pointwise [k1_pay6]

/-- The choice of the left sample at a later point, over what the point before left. -/
theorem choiceB0 (t : Fin cfg1.N) (h0 : ¬t.val % 64 = 0) (r : Fin 256) : (outsAt1 V c t.val t.isLt).1 (ix2 r (0 : Fin 2))
    = newChoice (base t) (blkP V c t (ix2 r (0 : Fin 2))) (row (blkX V c t) r) ((prev1 V c t).1 (ix2 r (0 : Fin 2))) := by
  rw [outsAt1_B V c t h0]
  frame_out
  refine (canonL _ _ _ r).trans ?_
  refine (choice0 _ _ _ _ _ r).trans ?_
  rw [ldL]
  rfl

/-- The choice of the right sample at a later point, over what the point before left. -/
theorem choiceB1 (t : Fin cfg1.N) (h0 : ¬t.val % 64 = 0) (r : Fin 256) : (outsAt1 V c t.val t.isLt).1 (ix2 r (1 : Fin 2))
    = newChoice (base t) (blkP V c t (ix2 r (1 : Fin 2))) (row (blkX V c t) r) ((prev1 V c t).1 (ix2 r (1 : Fin 2))) := by
  rw [outsAt1_B V c t h0]
  frame_out
  refine (canonR _ _ r).trans ?_
  refine (choice1 _ _ _ _ _ r).trans ?_
  rw [ldR]
  rfl

/-- The captured weight of the left sample at a later point, over what the point before left. -/
theorem weightB0 (t : Fin cfg1.N) (h0 : ¬t.val % 64 = 0) (r : Fin 256) : (outsAt1 V c t.val t.isLt).2.1 (ix2 r (0 : Fin 2))
    = (prev1 V c t).2.1 (ix2 r (0 : Fin 2)) + pick (blkP V c t (ix2 r (0 : Fin 2))) (row (blkX V c t) r) (row (blkW V c t) r) ((prev1 V c t).1 (ix2 r (0 : Fin 2))) := by
  rw [outsAt1_B V c t h0]
  frame_out
  refine (canonL _ _ _ r).trans ?_
  refine (weight0 _ _ _ _ _ r).trans ?_
  rw [ldL, ldL]

/-- The captured weight of the right sample at a later point, over what the point before left. -/
theorem weightB1 (t : Fin cfg1.N) (h0 : ¬t.val % 64 = 0) (r : Fin 256) : (outsAt1 V c t.val t.isLt).2.1 (ix2 r (1 : Fin 2))
    = (prev1 V c t).2.1 (ix2 r (1 : Fin 2)) + pick (blkP V c t (ix2 r (1 : Fin 2))) (row (blkX V c t) r) (row (blkW V c t) r) ((prev1 V c t).1 (ix2 r (1 : Fin 2))) := by
  rw [outsAt1_B V c t h0]
  frame_out
  refine (canonR _ _ r).trans ?_
  refine (weight1 _ _ _ _ _ r).trans ?_
  rw [ldR, ldR]

/-- The captured modulation of the left sample at a later point, over what the point before left. -/
theorem modB0 (t : Fin cfg1.N) (h0 : ¬t.val % 64 = 0) (r : Fin 256) : (outsAt1 V c t.val t.isLt).2.2 (ix2 r (0 : Fin 2))
    = (prev1 V c t).2.2 (ix2 r (0 : Fin 2)) + pick (blkP V c t (ix2 r (0 : Fin 2))) (row (blkX V c t) r) (row (blkM V c t) r) ((prev1 V c t).1 (ix2 r (0 : Fin 2))) := by
  rw [outsAt1_B V c t h0]
  frame_out
  refine (canonL _ _ _ r).trans ?_
  refine (mod0 _ _ _ _ _ r).trans ?_
  rw [ldL, ldL]

/-- The captured modulation of the right sample at a later point, over what the point before left. -/
theorem modB1 (t : Fin cfg1.N) (h0 : ¬t.val % 64 = 0) (r : Fin 256) : (outsAt1 V c t.val t.isLt).2.2 (ix2 r (1 : Fin 2))
    = (prev1 V c t).2.2 (ix2 r (1 : Fin 2)) + pick (blkP V c t (ix2 r (1 : Fin 2))) (row (blkX V c t) r) (row (blkM V c t) r) ((prev1 V c t).1 (ix2 r (1 : Fin 2))) := by
  rw [outsAt1_B V c t h0]
  frame_out
  refine (canonR _ _ r).trans ?_
  refine (mod1 _ _ _ _ _ r).trans ?_
  rw [ldR, ldR]

/-- The choice of the left sample at the first point, over the reset values. -/
theorem choiceA0 (t : Fin cfg1.N) (h0 : t.val % 64 = 0) (r : Fin 256) : (outsAt1 V c t.val t.isLt).1 (ix2 r (0 : Fin 2))
    = newChoice (base t) (blkP V c t (ix2 r (0 : Fin 2))) (row (blkX V c t) r) 131072#32 := by
  rw [outsAt1_A V c t h0]
  frame_out
  refine (canonL _ _ _ r).trans ?_
  simp (disch := decide) only [↓ View.readCov_skip, ↓ View.readCov_fill]
  refine (choice0 _ _ _ _ _ r).trans ?_
  rw [ldL]
  rfl

/-- The choice of the right sample at the first point, over the reset values. -/
theorem choiceA1 (t : Fin cfg1.N) (h0 : t.val % 64 = 0) (r : Fin 256) : (outsAt1 V c t.val t.isLt).1 (ix2 r (1 : Fin 2))
    = newChoice (base t) (blkP V c t (ix2 r (1 : Fin 2))) (row (blkX V c t) r) 131072#32 := by
  rw [outsAt1_A V c t h0]
  frame_out
  refine (canonR _ _ r).trans ?_
  simp (disch := decide) only [↓ View.readCov_skip, ↓ View.readCov_fill]
  refine (choice1 _ _ _ _ _ r).trans ?_
  rw [ldR]
  rfl

/-- The captured weight of the left sample at the first point, over the reset values. -/
theorem weightA0 (t : Fin cfg1.N) (h0 : t.val % 64 = 0) (r : Fin 256) : (outsAt1 V c t.val t.isLt).2.1 (ix2 r (0 : Fin 2))
    = 0 + pick (blkP V c t (ix2 r (0 : Fin 2))) (row (blkX V c t) r) (row (blkW V c t) r) 131072#32 := by
  rw [outsAt1_A V c t h0]
  frame_out
  refine (canonL _ _ _ r).trans ?_
  simp (disch := decide) only [↓ View.readCov_skip, ↓ View.readCov_fill]
  refine (weight0 _ _ _ _ _ r).trans ?_
  rw [ldL, ldL, reset2]
  rfl

/-- The captured weight of the right sample at the first point, over the reset values. -/
theorem weightA1 (t : Fin cfg1.N) (h0 : t.val % 64 = 0) (r : Fin 256) : (outsAt1 V c t.val t.isLt).2.1 (ix2 r (1 : Fin 2))
    = 0 + pick (blkP V c t (ix2 r (1 : Fin 2))) (row (blkX V c t) r) (row (blkW V c t) r) 131072#32 := by
  rw [outsAt1_A V c t h0]
  frame_out
  refine (canonR _ _ r).trans ?_
  simp (disch := decide) only [↓ View.readCov_skip, ↓ View.readCov_fill]
  refine (weight1 _ _ _ _ _ r).trans ?_
  rw [ldR, ldR, reset2]
  rfl

/-- The captured modulation of the left sample at the first point, over the reset values. -/
theorem modA0 (t : Fin cfg1.N) (h0 : t.val % 64 = 0) (r : Fin 256) : (outsAt1 V c t.val t.isLt).2.2 (ix2 r (0 : Fin 2))
    = 0 + pick (blkP V c t (ix2 r (0 : Fin 2))) (row (blkX V c t) r) (row (blkM V c t) r) 131072#32 := by
  rw [outsAt1_A V c t h0]
  frame_out
  refine (canonL _ _ _ r).trans ?_
  simp (disch := decide) only [↓ View.readCov_skip, ↓ View.readCov_fill]
  refine (mod0 _ _ _ _ _ r).trans ?_
  rw [ldL, ldL, reset3]
  rfl

/-- The captured modulation of the right sample at the first point, over the reset values. -/
theorem modA1 (t : Fin cfg1.N) (h0 : t.val % 64 = 0) (r : Fin 256) : (outsAt1 V c t.val t.isLt).2.2 (ix2 r (1 : Fin 2))
    = 0 + pick (blkP V c t (ix2 r (1 : Fin 2))) (row (blkX V c t) r) (row (blkM V c t) r) 131072#32 := by
  rw [outsAt1_A V c t h0]
  frame_out
  refine (canonR _ _ r).trans ?_
  simp (disch := decide) only [↓ View.readCov_skip, ↓ View.readCov_fill]
  refine (mod1 _ _ _ _ _ r).trans ?_
  rw [ldR, ldR, reset3]
  rfl

end Cert.Sampling

end
-- ==== Proof.Sample.lean ====
module

public import proofs.«01_k».proof.Proof.SampleStep
public import proofs.«01_k».proof.Proof.Lane
public import Idealize.ShloMosaic.Lib.Pipeline.Value

/-!
# What the sampling region leaves

By induction on the point, the three running arrays hold, for each row and sample, the state of the search after the
blocks met so far; the last point writes them back whole.
-/

@[expose] public section

set_option maxRecDepth 16384

noncomputable section

namespace Cert.Sampling

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- The index maps at every point: the three row arrays move along the columns, the others stay. -/
theorem idx1 : ∀ t : Fin cfg1.N, (win1_0.index t 0 = 0 ∧ win1_0.index t 1 = t.val) ∧ (win1_1.index t 0 = 0 ∧ win1_1.index t 1 = t.val)
    ∧ (win1_2.index t 0 = 0 ∧ win1_2.index t 1 = t.val) ∧ (win1_3.index t 0 = 0 ∧ win1_3.index t 1 = 0)
    ∧ (win1_4.index t 0 = 0 ∧ win1_4.index t 1 = 0) ∧ (win1_5.index t 0 = 0 ∧ win1_5.index t 1 = 0)
    ∧ (win1_6.index t 0 = 0 ∧ win1_6.index t 1 = 0) := by decide +kernel

/-- The grid has 64 points. -/
theorem lt64 (t : Fin cfg1.N) : t.val < 64 := Nat.lt_of_lt_of_eq t.isLt N_1

/-- The column an entry of point `t`'s block stands at. -/
def colAt1 (t : Fin cfg1.N) (q : Fin 2048) : Fin 131072 := ⟨t.val * 2048 + q.val, by have := lt64 t; omega⟩

/-- The number of a block's first direction, as a word. -/
theorem base_eq (t : Fin cfg1.N) : base t = BitVec.ofNat 32 (t.val * 2048) := by
  have e0 : (grid1.coords t 0).val = t.val / 1 % 64 := Pipeline.Grid.coords_val t 0 (by decide) rfl
  have h := lt64 t
  unfold base
  rw [e0, Nat.div_one, Nat.mod_eq_of_lt h]
  exact (BitVec.ofNat_mul _ _).symm

/-- The cumulative weights' block at a point, entry by entry. -/
theorem blk1_0 (t : Fin cfg1.N) (r : Fin 256) (q : Fin 2048) :
    blkX V c t (ix2 r q) = (show FVec Ideal S256x131072 .f32 from V c main_v42) (ix2 r (colAt1 t q)) := by
  obtain ⟨⟨h0, h1⟩, -⟩ := idx1 t
  refine congrArg (show FVec Ideal S256x131072 .f32 from V c main_v42) ?_
  refine Shape.idx_ext₂ ?_ ?_
  · exact Pipeline.Window.rect_emb_val_of_index_zero win1_0 t 0 h0 (ix2 r q)
  · refine (Pipeline.Window.rect_emb_val win1_0 t (ix2 r q) 1).trans ?_
    rw [h1]; rfl

/-- The weights' block at a point, entry by entry. -/
theorem blk1_1 (t : Fin cfg1.N) (r : Fin 256) (q : Fin 2048) :
    blkW V c t (ix2 r q) = (show FVec Ideal S256x131072 .f32 from V c main_v41) (ix2 r (colAt1 t q)) := by
  obtain ⟨-, ⟨h0, h1⟩, -⟩ := idx1 t
  refine congrArg (show FVec Ideal S256x131072 .f32 from V c main_v41) ?_
  refine Shape.idx_ext₂ ?_ ?_
  · exact Pipeline.Window.rect_emb_val_of_index_zero win1_1 t 0 h0 (ix2 r q)
  · refine (Pipeline.Window.rect_emb_val win1_1 t (ix2 r q) 1).trans ?_
    rw [h1]; rfl

/-- The modulations' block at a point, entry by entry. -/
theorem blk1_2 (t : Fin cfg1.N) (r : Fin 256) (q : Fin 2048) :
    blkM V c t (ix2 r q) = (show FVec Ideal S256x131072 .f32 from V c main_v25_1) (ix2 r (colAt1 t q)) := by
  obtain ⟨-, -, ⟨h0, h1⟩, -⟩ := idx1 t
  refine congrArg (show FVec Ideal S256x131072 .f32 from V c main_v25_1) ?_
  refine Shape.idx_ext₂ ?_ ?_
  · exact Pipeline.Window.rect_emb_val_of_index_zero win1_2 t 0 h0 (ix2 r q)
  · refine (Pipeline.Window.rect_emb_val win1_2 t (ix2 r q) 1).trans ?_
    rw [h1]; rfl

/-- The random numbers' block at a point: the whole array. -/
theorem blk1_3 (t : Fin cfg1.N) (r : Fin 256) (s : Fin 2) :
    blkP V c t (ix2 r s) = (show FVec Ideal S256x2 .f32 from V c main_v24) (ix2 r s) := by
  obtain ⟨-, -, -, ⟨h0, h1⟩, -⟩ := idx1 t
  refine congrArg (show FVec Ideal S256x2 .f32 from V c main_v24) ?_
  refine Shape.idx_ext₂ ?_ ?_
  · exact Pipeline.Window.rect_emb_val_of_index_zero win1_3 t 0 h0 (ix2 r s)
  · exact Pipeline.Window.rect_emb_val_of_index_zero win1_3 t 1 h1 (ix2 r s)

/-- Row `r` of the cumulative weights. -/
abbrev rowC (r : Fin 256) (k : Fin 131072) : EReal := (show FVec Ideal S256x131072 .f32 from V c main_v42) (ix2 r k)
/-- Row `r` of the weights. -/
abbrev rowW (r : Fin 256) (k : Fin 131072) : EReal := (show FVec Ideal S256x131072 .f32 from V c main_v41) (ix2 r k)
/-- Row `r` of the modulations. -/
abbrev rowM (r : Fin 256) (k : Fin 131072) : EReal := (show FVec Ideal S256x131072 .f32 from V c main_v25_1) (ix2 r k)
/-- A random number. -/
abbrev numP (r : Fin 256) (s : Fin 2) : EReal := (show FVec Ideal S256x2 .f32 from V c main_v24) (ix2 r s)

/-- The choice after any later point. -/
theorem choiceB (t : Fin cfg1.N) (h0 : ¬t.val % 64 = 0) (r : Fin 256) (s : Fin 2) : (outsAt1 V c t.val t.isLt).1 (ix2 r s)
    = newChoice (base t) (blkP V c t (ix2 r s)) (row (blkX V c t) r) ((prev1 V c t).1 (ix2 r s)) := by
  fin_cases s
  · exact choiceB0 V c t h0 r
  · exact choiceB1 V c t h0 r

/-- The captured weight after any later point. -/
theorem weightB (t : Fin cfg1.N) (h0 : ¬t.val % 64 = 0) (r : Fin 256) (s : Fin 2) : (outsAt1 V c t.val t.isLt).2.1 (ix2 r s)
    = (prev1 V c t).2.1 (ix2 r s) + pick (blkP V c t (ix2 r s)) (row (blkX V c t) r) (row (blkW V c t) r) ((prev1 V c t).1 (ix2 r s)) := by
  fin_cases s
  · exact weightB0 V c t h0 r
  · exact weightB1 V c t h0 r

/-- The captured modulation after any later point. -/
theorem modB (t : Fin cfg1.N) (h0 : ¬t.val % 64 = 0) (r : Fin 256) (s : Fin 2) : (outsAt1 V c t.val t.isLt).2.2 (ix2 r s)
    = (prev1 V c t).2.2 (ix2 r s) + pick (blkP V c t (ix2 r s)) (row (blkX V c t) r) (row (blkM V c t) r) ((prev1 V c t).1 (ix2 r s)) := by
  fin_cases s
  · exact modB0 V c t h0 r
  · exact modB1 V c t h0 r

/-- The choice after the first point. -/
theorem choiceA (t : Fin cfg1.N) (h0 : t.val % 64 = 0) (r : Fin 256) (s : Fin 2) : (outsAt1 V c t.val t.isLt).1 (ix2 r s)
    = newChoice (base t) (blkP V c t (ix2 r s)) (row (blkX V c t) r) 131072#32 := by
  fin_cases s
  · exact choiceA0 V c t h0 r
  · exact choiceA1 V c t h0 r

/-- The captured weight after the first point. -/
theorem weightA (t : Fin cfg1.N) (h0 : t.val % 64 = 0) (r : Fin 256) (s : Fin 2) : (outsAt1 V c t.val t.isLt).2.1 (ix2 r s)
    = 0 + pick (blkP V c t (ix2 r s)) (row (blkX V c t) r) (row (blkW V c t) r) 131072#32 := by
  fin_cases s
  · exact weightA0 V c t h0 r
  · exact weightA1 V c t h0 r

/-- The captured modulation after the first point. -/
theorem modA (t : Fin cfg1.N) (h0 : t.val % 64 = 0) (r : Fin 256) (s : Fin 2) : (outsAt1 V c t.val t.isLt).2.2 (ix2 r s)
    = 0 + pick (blkP V c t (ix2 r s)) (row (blkX V c t) r) (row (blkM V c t) r) 131072#32 := by
  fin_cases s
  · exact modA0 V c t h0 r
  · exact modA1 V c t h0 r

/-- ONE POINT: from the state before it to the state after it. -/
theorem state_step (t : Fin cfg1.N) (r : Fin 256) (s : Fin 2) (ch : BitVec 32) (q m : EReal)
    (h : Found (numP V c r s) (rowC V c r) (rowW V c r) (rowM V c r) (t.val * 2048) ch q m)
    (e1 : (outsAt1 V c t.val t.isLt).1 (ix2 r s) = newChoice (base t) (blkP V c t (ix2 r s)) (row (blkX V c t) r) ch)
    (e2 : (outsAt1 V c t.val t.isLt).2.1 (ix2 r s) = q + pick (blkP V c t (ix2 r s)) (row (blkX V c t) r) (row (blkW V c t) r) ch)
    (e3 : (outsAt1 V c t.val t.isLt).2.2 (ix2 r s) = m + pick (blkP V c t (ix2 r s)) (row (blkX V c t) r) (row (blkM V c t) r) ch) :
    Found (numP V c r s) (rowC V c r) (rowW V c r) (rowM V c r) ((t.val + 1) * 2048)
      ((outsAt1 V c t.val t.isLt).1 (ix2 r s)) ((outsAt1 V c t.val t.isLt).2.1 (ix2 r s)) ((outsAt1 V c t.val t.isLt).2.2 (ix2 r s)) := by
  rw [e1, e2, e3, base_eq, blk1_3]
  exact found_step (numP V c r s) (row (blkX V c t) r) (rowC V c r) (rowW V c r) (rowM V c r) t.val (lt64 t) ch q m h
    (row (blkW V c t) r) (row (blkM V c t) r) (fun k => blk1_0 V c t r k) (fun k => blk1_1 V c t r k) (fun k => blk1_2 V c t r k)

/-- EVERY POINT: the state after the blocks met so far. -/
theorem state_at (r : Fin 256) (s : Fin 2) : ∀ (n : ℕ) (hn : n < cfg1.N),
    Found (numP V c r s) (rowC V c r) (rowW V c r) (rowM V c r) ((n + 1) * 2048)
      ((outsAt1 V c n hn).1 (ix2 r s)) ((outsAt1 V c n hn).2.1 (ix2 r s)) ((outsAt1 V c n hn).2.2 (ix2 r s))
  | 0, hn => state_step V c ⟨0, hn⟩ r s 131072#32 0 0
      ((Nat.zero_mul 2048).symm ▸ found_zero (numP V c r s) (rowC V c r) (rowW V c r) (rowM V c r))
      (choiceA V c ⟨0, hn⟩ (Nat.zero_mod _) r s) (weightA V c ⟨0, hn⟩ (Nat.zero_mod _) r s) (modA V c ⟨0, hn⟩ (Nat.zero_mod _) r s)
  | n + 1, hn => by
    have h64 : n + 1 < 64 := lt64 ⟨n + 1, hn⟩
    have h0 : ¬ (⟨n + 1, hn⟩ : Fin cfg1.N).val % 64 = 0 := by show ¬ (n + 1) % 64 = 0; omega
    exact state_step V c ⟨n + 1, hn⟩ r s _ _ _ (state_at r s n (Nat.lt_of_succ_lt hn))
      (choiceB V c ⟨n + 1, hn⟩ h0 r s) (weightB V c ⟨n + 1, hn⟩ h0 r s) (modB V c ⟨n + 1, hn⟩ h0 r s)

/-- The last point. -/
def tLast : Fin cfg1.N := ⟨63, Nat.lt_of_lt_of_eq (by decide) N_1.symm⟩

/-- A point that writes back is the last. -/
theorem eq_tLast (t : Fin cfg1.N) (h : t.val % 64 = 63) : t = tLast := Fin.ext (by have := lt64 t; show t.val = 63; omega)

/-- The choices end as the last point leaves them. -/
theorem final1_4 : (dat1 V c).arrAt 4 cfg1.N = (outsAt1 V c tLast.val tLast.isLt).1 := by
  refine (dat1 V c).arrAt_eq_of_cover 4 _ (fun t hf => ?_) fun i => ⟨tLast, (flush1_4 tLast).mpr rfl, ?_⟩
  · obtain rfl := eq_tLast t ((flush1_4 t).mp hf)
    show (cfg1.win 4).cut (grid1.coords tLast) ((dat1 V c).after 4 tLast) = _
    rw [after1_4]
    refine funext fun (y : S256x2.Idx) => ?_
    refine congrArg (outsAt1 V c tLast.val tLast.isLt).1 ?_
    obtain ⟨-, -, -, -, ⟨h0, h1⟩, -⟩ := idx1 tLast
    refine Shape.idx_ext₂ ?_ ?_
    · exact (Pipeline.Window.rect_emb_val_of_index_zero win1_4 tLast 0 h0 y).symm
    · exact (Pipeline.Window.rect_emb_val_of_index_zero win1_4 tLast 1 h1 y).symm
  · obtain ⟨-, -, -, -, ⟨h0, h1⟩, -⟩ := idx1 tLast
    have e : ((cfg1.win 4).blk tLast).view.emb (i : S256x2.Idx) = (i : S256x2.Idx) := Shape.idx_ext₂
      (Pipeline.Window.rect_emb_val_of_index_zero win1_4 tLast 0 h0 i) (Pipeline.Window.rect_emb_val_of_index_zero win1_4 tLast 1 h1 i)
    have h := ((cfg1.win 4).blk tLast).view.emb_mem_set (i : S256x2.Idx)
    exact Eq.subst (motive := fun k : S256x2.Idx => k ∈ ((cfg1.win 4).blk tLast).view.set) e h

/-- The captured weights end as the last point leaves them. -/
theorem final1_5 : (dat1 V c).arrAt 5 cfg1.N = (outsAt1 V c tLast.val tLast.isLt).2.1 := by
  refine (dat1 V c).arrAt_eq_of_cover 5 _ (fun t hf => ?_) fun i => ⟨tLast, (flush1_5 tLast).mpr rfl, ?_⟩
  · obtain rfl := eq_tLast t ((flush1_5 t).mp hf)
    show (cfg1.win 5).cut (grid1.coords tLast) ((dat1 V c).after 5 tLast) = _
    rw [after1_5]
    refine funext fun (y : S256x2.Idx) => ?_
    refine congrArg (outsAt1 V c tLast.val tLast.isLt).2.1 ?_
    obtain ⟨-, -, -, -, -, ⟨h0, h1⟩, -⟩ := idx1 tLast
    refine Shape.idx_ext₂ ?_ ?_
    · exact (Pipeline.Window.rect_emb_val_of_index_zero win1_5 tLast 0 h0 y).symm
    · exact (Pipeline.Window.rect_emb_val_of_index_zero win1_5 tLast 1 h1 y).symm
  · obtain ⟨-, -, -, -, -, ⟨h0, h1⟩, -⟩ := idx1 tLast
    have e : ((cfg1.win 5).blk tLast).view.emb (i : S256x2.Idx) = (i : S256x2.Idx) := Shape.idx_ext₂
      (Pipeline.Window.rect_emb_val_of_index_zero win1_5 tLast 0 h0 i) (Pipeline.Window.rect_emb_val_of_index_zero win1_5 tLast 1 h1 i)
    have h := ((cfg1.win 5).blk tLast).view.emb_mem_set (i : S256x2.Idx)
    exact Eq.subst (motive := fun k : S256x2.Idx => k ∈ ((cfg1.win 5).blk tLast).view.set) e h

/-- The captured modulations end as the last point leaves them. -/
theorem final1_6 : (dat1 V c).arrAt 6 cfg1.N = (outsAt1 V c tLast.val tLast.isLt).2.2 := by
  refine (dat1 V c).arrAt_eq_of_cover 6 _ (fun t hf => ?_) fun i => ⟨tLast, (flush1_6 tLast).mpr rfl, ?_⟩
  · obtain rfl := eq_tLast t ((flush1_6 t).mp hf)
    show (cfg1.win 6).cut (grid1.coords tLast) ((dat1 V c).after 6 tLast) = _
    rw [after1_6]
    refine funext fun (y : S256x2.Idx) => ?_
    refine congrArg (outsAt1 V c tLast.val tLast.isLt).2.2 ?_
    obtain ⟨-, -, -, -, -, -, ⟨h0, h1⟩⟩ := idx1 tLast
    refine Shape.idx_ext₂ ?_ ?_
    · exact (Pipeline.Window.rect_emb_val_of_index_zero win1_6 tLast 0 h0 y).symm
    · exact (Pipeline.Window.rect_emb_val_of_index_zero win1_6 tLast 1 h1 y).symm
  · obtain ⟨-, -, -, -, -, -, ⟨h0, h1⟩⟩ := idx1 tLast
    have e : ((cfg1.win 6).blk tLast).view.emb (i : S256x2.Idx) = (i : S256x2.Idx) := Shape.idx_ext₂
      (Pipeline.Window.rect_emb_val_of_index_zero win1_6 tLast 0 h0 i) (Pipeline.Window.rect_emb_val_of_index_zero win1_6 tLast 1 h1 i)
    have h := ((cfg1.win 6).blk tLast).view.emb_mem_set (i : S256x2.Idx)
    exact Eq.subst (motive := fun k : S256x2.Idx => k ∈ ((cfg1.win 6).blk tLast).view.set) e h

/-- What the region leaves, entry by entry: the state of the search over all 131072 directions. -/
theorem final1 (r : Fin 256) (s : Fin 2) :
    Found (numP V c r s) (rowC V c r) (rowW V c r) (rowM V c r) 131072
      ((show IVec S256x2 32 from (dat1 V c).arrAt 4 cfg1.N) (ix2 r s))
      ((show FVec Ideal S256x2 .f32 from (dat1 V c).arrAt 5 cfg1.N) (ix2 r s))
      ((show FVec Ideal S256x2 .f32 from (dat1 V c).arrAt 6 cfg1.N) (ix2 r s)) := by
  rw [final1_4, final1_5, final1_6]
  exact state_at V c r s 63 tLast.isLt

end Cert.Sampling

end
-- ==== Proof.Match.lean ====
module

public import proofs.«01_k».proof.Proof.Choice
public import proofs.«01_k».proof.Proof.KernelFold
public import proofs.«01_k».proof.Proof.RefFold
public import proofs.«01_k».proof.Proof.Rotation
public import proofs.«01_k».proof.Proof.Maps
public import proofs.«01_k».proof.Proof.Sample
public import proofs.«01_k».proof.Pre_in_range
public import proofs.«01_k».proof.Proof.Gen.Pre_in_range
public import Idealize.ShloMosaic.Lib.ReduceAll

/-!
# The kernel's six results in the reference's terms

Under the precondition every row number is zero, and each of the kernel's results is the reference's function of the
same arguments.
-/

@[expose] public section

set_option maxRecDepth 16384

noncomputable section

namespace Cert.Sampling

open Cert.KernelIdeal Cert.KernelIdeal.Gen Idealize.ShloMosaic Idealize.ShloMosaic.TcCoe Idealize.SL.Sem
open Idealize.ShloMosaic.WordCmp

/-- Under the precondition every row number is zero. -/
theorem idx_zero (i : IVec S256 32) (n : FVec Ideal S256x3 .f32) (p : FVec Ideal S256x2x1 .f32) (e : FVec Ideal S1x256x512x3 .f32)
    (d : FVec Ideal S256x512x3 .f32) (h : Cert.Pre_in_range.fn (F := Ideal) i n p e d = fun _ => 1#1) (r : Fin 256) : i (ix1 r) = 0#32 := by
  have h0 := congrFun h (fun a => a.elim0)
  unfold Cert.Pre_in_range.fn at h0
  have h1 := Host.reduce_andi_all _ _ _ _ _ h0 (ix1 r)
  have h2 : IntOp.andi (IntOp.cmpi .sge (i (ix1 r)) 0#32) (IntOp.cmpi .slt (i (ix1 r)) 1#32) = 1#1 := h1
  rw [cmpi_sge_eq, cmpi_slt_eq] at h2
  have c0 : (0#32 : BitVec 32).toInt = 0 := by decide
  have c1 : (1#32 : BitVec 32).toInt = 1 := by decide
  rw [c0, c1] at h2
  by_cases a : 0 ≤ (i (ix1 r)).toInt
  · by_cases b : (i (ix1 r)).toInt < 1
    · exact BitVec.eq_of_toInt_eq (by rw [c0]; omega)
    · rw [decide_eq_false b] at h2
      exact absurd h2 (by cases decide (0 ≤ (i (ix1 r)).toInt) <;> decide)
  · rw [decide_eq_false a] at h2
    exact absurd h2 (by cases decide ((i (ix1 r)).toInt < 1) <;> decide)

/-- The modulation array is the reference's modulation map. -/
theorem modMap_eq (d : FVec Ideal S256x512x3 .f32) (n : FVec Ideal S256x3 .f32) :
    modMap (dirRows d) (rotated n) = modulation d (RefRun.refRotated n) := by
  rw [← rotated_eq]
  refine funext fun (y : S256x131072.Idx) => ?_
  obtain ⟨r, q, rfl⟩ : ∃ (r : Fin 256) (q : Fin 131072), y = ix2 r q := ⟨y 0, y 1, eq_ix2 y⟩
  exact (modulation_at d (rotated n) r q).symm

/-- The intensity array is the reference's intensity map. -/
theorem intMap_eq (e : FVec Ideal S1x256x512x3 .f32) (i : IVec S256 32) (h : ∀ r : Fin 256, i (ix1 r) = 0#32) :
    intMap (envRows e) = takeRows (flat (lengths e)) i := by
  refine funext fun (y : S256x131072.Idx) => ?_
  obtain ⟨r, q, rfl⟩ : ∃ (r : Fin 256) (q : Fin 131072), y = ix2 r q := ⟨y 0, y 1, eq_ix2 y⟩
  exact ((takeRows_at (flat (lengths e)) i r q (h r)).trans (flat_at e q)).symm

/-- A sample without its last axis. -/
theorem samples_at (p : FVec Ideal S256x2x1 .f32) (r : Fin 256) (s : Fin 2) : samples p (ix2 r s) = p (ix3 r s (0 : Fin 1)) := by
  pointwise [samples]

section
variable (m : (ℓ : Loc nD τ sig) → Buf (Elt Ideal) ℓ) (ρ : Dev nD → PrngReg) (c : Dev nD)

/-- The reference's modulation map of the kernel's arguments. -/
abbrev tMod : FVec Ideal S256x131072 .f32 := modulation (kDir m c) (RefRun.refRotated (kNrm m c))
/-- The reference's weight map of them. -/
abbrev tWts : FVec Ideal S256x131072 .f32 := weights (kIdx m c) (kEnv m c) (tMod m c)
/-- The reference's choice of them. -/
abbrev tTop : IVec S256x2 32 := RefRun.firstTop (RefRun.below (kSmp m c) (cumsum (tWts m c)))

/-- The kernel's weights are the reference's. -/
theorem kWts_eq : kWts m c = tWts m c := congrArg (fun x => weights (kIdx m c) (kEnv m c) (modulation (kDir m c) x)) (rotated_eq (kNrm m c))

/-- What the first region leaves as modulations. -/
theorem at2_mod : W2 m ρ c (Proc.devRef .tc main_v25_1) = tMod m c := by
  refine (W2_arr m ρ c 4).trans ((final0_mod (V1 m ρ) c).trans ?_)
  have e1 : V1 m ρ c main_v23 = dirRows (kDir m c) := at1_v23 m ρ c
  have e2 : V1 m ρ c main_v19 = rotated (kNrm m c) := at1_v19 m ρ c
  rw [e1, e2]
  exact modMap_eq (kDir m c) (kNrm m c)

/-- What the first region leaves as intensities. -/
theorem at2_int (h : ∀ r : Fin 256, kIdx m c (ix1 r) = 0#32) :
    W2 m ρ c (Proc.devRef .tc main_v25_0) = takeRows (flat (lengths (kEnv m c))) (kIdx m c) := by
  refine (W2_arr m ρ c 3).trans ((final0_int (V1 m ρ) c).trans ?_)
  have e1 : V1 m ρ c main_v21 = envRows (kEnv m c) := at1_v21 m ρ c
  rw [e1]
  exact intMap_eq (kEnv m c) (kIdx m c) h

/-- The choices the second region leaves. -/
abbrev kCh : IVec S256x2 32 := W10 m ρ c (Proc.devRef .tc main_v43_0)
/-- The weights it captured. -/
abbrev kQ : FVec Ideal S256x2 .f32 := W10 m ρ c (Proc.devRef .tc main_v43_1)
/-- The modulations it captured. -/
abbrev kM : FVec Ideal S256x2 .f32 := W10 m ρ c (Proc.devRef .tc main_v43_2)

/-- The second region ends in the searched state, of the reference's arrays. -/
theorem found_at (r : Fin 256) (s : Fin 2) :
    Found (kSmp m c (ix3 r s (0 : Fin 1))) (fun k => cumsum (tWts m c) (ix2 r k)) (fun k => tWts m c (ix2 r k)) (fun k => tMod m c (ix2 r k))
      131072 (kCh m ρ c (ix2 r s)) (kQ m ρ c (ix2 r s)) (kM m ρ c (ix2 r s)) := by
  have h := final1 (V9 m ρ) c r s
  have a4 : kCh m ρ c = (dat1 (V9 m ρ) c).arrAt 4 cfg1.N := W10_arr m ρ c 4
  have a5 : kQ m ρ c = (dat1 (V9 m ρ) c).arrAt 5 cfg1.N := W10_arr m ρ c 5
  have a6 : kM m ρ c = (dat1 (V9 m ρ) c).arrAt 6 cfg1.N := W10_arr m ρ c 6
  have ep : numP (V9 m ρ) c r s = kSmp m c (ix3 r s (0 : Fin 1)) :=
    (congrFun (show (show FVec Ideal S256x2 .f32 from V9 m ρ c main_v24) = samples (kSmp m c) from at9_v24 m ρ c) (ix2 r s)).trans (samples_at (kSmp m c) r s)
  have eC : rowC (V9 m ρ) c r = fun k => cumsum (tWts m c) (ix2 r k) := funext fun k =>
    congrFun (show (show FVec Ideal S256x131072 .f32 from V9 m ρ c main_v42) = cumsum (tWts m c) from
      (at9_v42 m ρ c).trans (congrArg cumsum (kWts_eq m c))) (ix2 r k)
  have eW : rowW (V9 m ρ) c r = fun k => tWts m c (ix2 r k) := funext fun k =>
    congrFun (show (show FVec Ideal S256x131072 .f32 from V9 m ρ c main_v41) = tWts m c from
      (at9_v41 m ρ c).trans (kWts_eq m c)) (ix2 r k)
  have eM : rowM (V9 m ρ) c r = fun k => tMod m c (ix2 r k) := funext fun k =>
    congrFun (show (show FVec Ideal S256x131072 .f32 from V9 m ρ c main_v25_1) = tMod m c from
      (at9_v25_1 m ρ c).trans (at2_mod m ρ c)) (ix2 r k)
  rw [ep, eC, eW, eM] at h
  rw [a4, a5, a6]
  exact h

/-- RESULT 1. -/
theorem row_eq : W20 m ρ c (Proc.devRef .tc main_v56) = floorDiv (tTop m c) (constantI S_ 32 512#32) :=
  (res_row m ρ c).trans (congrArg (fun x => floorDiv x (constantI S_ 32 512#32))
    (chosen_eq (kSmp m c) (cumsum (tWts m c)) (tWts m c) (tMod m c) _ _ _ (found_at m ρ c)))

/-- RESULT 2. -/
theorem col_eq : W20 m ρ c (Proc.devRef .tc main_v57) = remainder (tTop m c) (constantI S_ 32 512#32) :=
  (res_col m ρ c).trans (congrArg (fun x => remainder x (constantI S_ 32 512#32))
    (chosen_eq (kSmp m c) (cumsum (tWts m c)) (tWts m c) (tMod m c) _ _ _ (found_at m ρ c)))

/-- RESULT 3. -/
theorem ratio_eq : W20 m ρ c (Proc.devRef .tc main_v55)
    = ratio (RefRun.along (tWts m c) (tTop m c)) (RefRun.along (tMod m c) (tTop m c)) := by
  have hw := captured_wts (kSmp m c) (cumsum (tWts m c)) (tWts m c) (tMod m c) _ _ _ (found_at m ρ c)
  have hm := captured_mod (kSmp m c) (cumsum (tWts m c)) (tWts m c) (tMod m c) _ _ _ (found_at m ρ c)
  refine (res_ratio m ρ c).trans ?_
  rw [kWts_eq, at2_mod]
  exact congrArg₂ ratio hw hm

/-- RESULT 4. -/
theorem int_eq (h : ∀ r : Fin 256, kIdx m c (ix1 r) = 0#32) :
    W20 m ρ c (Proc.devRef .tc main_v25_0) = takeRows (flat (lengths (kEnv m c))) (kIdx m c) :=
  (res_inten m ρ c).trans (at2_int m ρ c h)

/-- RESULT 5. -/
theorem mod_eq : W20 m ρ c (Proc.devRef .tc main_v25_1) = tMod m c := (res_mod m ρ c).trans (at2_mod m ρ c)

/-- RESULT 6. -/
theorem wts_eq : W20 m ρ c (Proc.devRef .tc main_v41) = tWts m c := (res_wts m ρ c).trans (kWts_eq m c)
end

end Cert.Sampling

end
-- ==== Proof.Algebra.lean ====
module

public import proofs.«01_k».proof.Defs
public import proofs.«01_k».proof.Proof.KernelRun
public import proofs.«01_k».proof.Proof.Match

/-!
# The two runs meet

The reference's six results in the terms of the kernel's, and the claim that both programs compute the same.
-/

@[expose] public section

set_option maxRecDepth 16384

noncomputable section

namespace Cert.RefRun

open Cert.ReferenceIdeal Cert.ReferenceIdeal.Gen Idealize.ShloMosaic Idealize.ShloMosaic.TcCoe Idealize.SL.Sem
open Idealize.ShloMosaic.StableHlo

section
variable (V : Valuation τ sig (Elt Ideal))
variable (i : IVec S256 32) (n : FVec Ideal S256x3 .f32) (p : FVec Ideal S256x2x1 .f32)
variable (e : FVec Ideal S1x256x512x3 .f32) (d : FVec Ideal S256x512x3 .f32)

/-- The modulation map of given arguments. -/
abbrev mMod : FVec Ideal S256x131072 .f32 := Sampling.modulation d (refRotated n)
/-- The weight map of given arguments. -/
abbrev mWts : FVec Ideal S256x131072 .f32 := Sampling.weights i e (mMod n d)
/-- The choice of given arguments. -/
abbrev mTop : IVec S256x2 32 := firstTop (below p (Sampling.cumsum (mWts i n e d)))

/-- The reference's results, its arguments given by name. -/
theorem results (h0 : rIdx V = i) (h1 : rNrm V = n) (h2 : rSmp V = p) (h3 : rEnv V = e) (h4 : rDir V = d) :
    after ops V (Proc.devRef .tc main_v27) = Sampling.floorDiv (mTop i n p e d) (constantI S_ 32 512#32)
      ∧ after ops V (Proc.devRef .tc main_v28) = Sampling.remainder (mTop i n p e d) (constantI S_ 32 512#32)
      ∧ after ops V (Proc.devRef .tc main_v35) = Sampling.ratio (along (mWts i n e d) (mTop i n p e d)) (along (mMod n d) (mTop i n p e d))
      ∧ after ops V (Proc.devRef .tc main_v7) = Sampling.takeRows (Sampling.flat (Sampling.lengths e)) i
      ∧ after ops V (Proc.devRef .tc main_v14) = mMod n d
      ∧ after ops V (Proc.devRef .tc main_v19) = mWts i n e d := by
  subst h0 h1 h2 h3 h4
  exact ⟨res_v27 V, res_v28 V, res_v35 V, res_v7 V, res_v14 V, res_v19 V⟩
end

end Cert.RefRun

namespace Cert.Sampling

open Cert.KernelIdeal Cert.KernelIdeal.Gen Idealize.ShloMosaic Idealize.ShloMosaic.TcCoe Idealize.SL.Sem

/-- THE CLAIM: from memories that agree on the arguments, row numbers in range, the kernel and the reference end with the
    same six results, their arguments unchanged. -/
theorem same_results : algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m ρ m' ρ' hpre hag
  refine ⟨fun c => W20 m ρ c (Proc.devRef .tc main_v56), fun c => W20 m ρ c (Proc.devRef .tc main_v57),
    fun c => W20 m ρ c (Proc.devRef .tc main_v55), fun c => W20 m ρ c (Proc.devRef .tc main_v25_0),
    fun c => W20 m ρ c (Proc.devRef .tc main_v25_1), fun c => W20 m ρ c (Proc.devRef .tc main_v41), ?_, ?_⟩
  · refine (θ_run defs _ _).mono (fun r h c => ?_) (kernel_run m ρ)
    exact ⟨h c main_v56 (by decide), h c main_v57 (by decide), h c main_v55 (by decide), h c main_v25_0 (by decide),
      h c main_v25_1 (by decide), h c main_v41 (by decide),
      (h c main_arg0 (by decide)).trans (W20_args m ρ c main_arg0 (by decide)),
      (h c main_arg1 (by decide)).trans (W20_args m ρ c main_arg1 (by decide)),
      (h c main_arg2 (by decide)).trans (W20_args m ρ c main_arg2 (by decide)),
      (h c main_arg3 (by decide)).trans (W20_args m ρ c main_arg3 (by decide)),
      (h c main_arg4 (by decide)).trans (W20_args m ρ c main_arg4 (by decide))⟩
  · refine (θ_run Cert.ReferenceIdeal.defs _ _).mono (fun r h c => ?_) (RefRun.run m' ρ')
    obtain ⟨a0, a1, a2, a3, a4⟩ := hag c
    have hz : ∀ r : Fin 256, kIdx m c (ix1 r) = 0#32 := idx_zero (kIdx m c) (kNrm m c) (kSmp m c) (kEnv m c) (kDir m c) (hpre c)
    obtain ⟨r1, r2, r3, r4, r5, r6⟩ := RefRun.results (StableHlo.launchContents m' c) (kIdx m c) (kNrm m c) (kSmp m c) (kEnv m c) (kDir m c) a0 a1 a2 a3 a4
    exact ⟨(h c Cert.ReferenceIdeal.main_v27).trans (r1.trans (row_eq m ρ c).symm),
      (h c Cert.ReferenceIdeal.main_v28).trans (r2.trans (col_eq m ρ c).symm),
      (h c Cert.ReferenceIdeal.main_v35).trans (r3.trans (ratio_eq m ρ c).symm),
      (h c Cert.ReferenceIdeal.main_v7).trans (r4.trans (int_eq m ρ c hz).symm),
      (h c Cert.ReferenceIdeal.main_v14).trans (r5.trans (mod_eq m ρ c).symm),
      (h c Cert.ReferenceIdeal.main_v19).trans (r6.trans (wts_eq m ρ c).symm),
      (h c Cert.ReferenceIdeal.main_arg0).trans (RefRun.arg0_eq _), (h c Cert.ReferenceIdeal.main_arg1).trans (RefRun.arg1_eq _),
      (h c Cert.ReferenceIdeal.main_arg2).trans (RefRun.arg2_eq _), (h c Cert.ReferenceIdeal.main_arg3).trans (RefRun.arg3_eq _),
      (h c Cert.ReferenceIdeal.main_arg4).trans (RefRun.arg4_eq _)⟩

end Cert.Sampling

end
-- ==== Proof.lean ====
/- The proof of the claims: the kernel's frame at both instances, the reference's frame, the idealization, and the
   equality of the two programs' six results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_range
public import proofs.«01_k».proof.Proof.Algebra
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends with its arguments as launched and every counter at zero. -/
theorem frame_ri (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c =>
    ⟨(h c Cert.ReferenceIdeal.main_arg0).trans (Cert.RefRun.arg0_eq _), (h c Cert.ReferenceIdeal.main_arg1).trans (Cert.RefRun.arg1_eq _),
      (h c Cert.ReferenceIdeal.main_arg2).trans (Cert.RefRun.arg2_eq _), (h c Cert.ReferenceIdeal.main_arg3).trans (Cert.RefRun.arg3_eq _),
      (h c Cert.ReferenceIdeal.main_arg4).trans (Cert.RefRun.arg4_eq _)⟩,
    Idealize.ShloMosaic.sem_eq_zero_of_no_sems (by decide) r.2⟩) (Cert.RefRun.run m ρ)

/-- All the claims together. -/
theorem claim : Cert.Claim := ⟨Cert.Kernel.Gen.facts, Cert.KernelIdeal.Gen.facts, Cert.ReferenceIdeal.Gen.facts, Cert.Pre_in_range.Gen.facts,
  fun m ρ _ => Cert.Kernel.Gen.frame m ρ, fun m ρ _ => Cert.KernelIdeal.Gen.frame m ρ, fun m ρ _ => Cert.KernelIdeal.Gen.frame m ρ,
  fun m ρ _ => frame_ri m ρ, fun m ρ _ => frame_ri m ρ, trivial, Cert.Sampling.same_results⟩

end Cert.Proof

end
